-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = Layout.blockN ⟨3, ![1, 1024, 8192]⟩ ⟨3, ![1, 2048, 8192]⟩ (Layout.meshBlock [2, 2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S_ : Shape := ⟨0, ![]⟩
abbrev S1 : Shape := ⟨1, ![1]⟩
abbrev S1x1024x8192 : Shape := ⟨3, ![1, 1024, 8192]⟩
abbrev S1x2048x8x128 : Shape := ⟨4, ![1, 2048, 8, 128]⟩
abbrev S1024x512 : Shape := ⟨2, ![1024, 512]⟩
abbrev S4x1024x512 : Shape := ⟨3, ![4, 1024, 512]⟩
abbrev S4 : Shape := ⟨1, ![4]⟩
abbrev S1x1024x1x128 : Shape := ⟨4, ![1, 1024, 1, 128]⟩
abbrev S1024x128 : Shape := ⟨2, ![1024, 128]⟩
abbrev S128x512 : Shape := ⟨2, ![128, 512]⟩
abbrev S1x1024x512 : Shape := ⟨3, ![1, 1024, 512]⟩

abbrev nBuf : Space → Nat
  | .hbm => 18
  | .vmem => 7
  | .smem => 1
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x1024x8192, .f32⟩
  | .local _ .vmem, ⟨0, _⟩ => ⟨S1x2048x8x128, .f32⟩
  | .local _ .vmem, ⟨1, _⟩ => ⟨S1x2048x8x128, .f32⟩
  | .local _ .vmem, ⟨2, _⟩ => ⟨S1024x512, .f32⟩
  | .local _ .vmem, ⟨3, _⟩ => ⟨S1024x512, .f32⟩
  | .local _ .vmem, ⟨4, _⟩ => ⟨S4x1024x512, .f32⟩
  | .local _ .vmem, ⟨5, _⟩ => ⟨S4x1024x512, .f32⟩
  | .local _ .vmem, ⟨6, _⟩ => ⟨S4x1024x512, .f32⟩
  | .local _ .smem, ⟨0, _⟩ => ⟨S1, .i32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_c_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 8
abbrev τ : Topo := Topo.v7x

variable {F : FTy → Type} [FloatOps F]

abbrev grid0 : Pipeline.Grid := ⟨2, ![7, 4], ![false, false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let arg1 : BitVec 32 := BitVec.ofNat 32 (i 1).val
  let c0_i32_16 : BitVec 32 := 0#32
  let v28 : BitVec 1 := Scalar.cmpi .eq arg1 c0_i32_16
  let v29 : BitVec 1 := Scalar.andi v27 v28
  let v30 : BitVec 32 := Scalar.extui v29
  let c0_i32_17 : BitVec 32 := 0#32
  let v31 : BitVec 1 := Scalar.cmpi .ne v30 c0_i32_17
  v31

def k0_dev1 (d0 : Dev nD) : Nat :=
  let c0_i32_23 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_22 : BitVec 32 := 4#32
  let v39 : BitVec 32 := Scalar.muli v12 c4_i32_22
  let v40 : BitVec 32 := Scalar.addi c0_i32_23 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v41 : BitVec 32 := Scalar.muli v5 c2_i32_24
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v43 : BitVec 32 := Scalar.muli v8 c1_i32_25
  let v44 : BitVec 32 := Scalar.addi v42 v43
  v44.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v45 : BitVec 32 := Scalar.muli v2 c4_i32_27
  let v46 : BitVec 32 := Scalar.addi c0_i32_28 v45
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_29 : BitVec 32 := 2#32
  let v47 : BitVec 32 := Scalar.muli v13 c2_i32_29
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v49 : BitVec 32 := Scalar.muli v8 c1_i32_30
  let v50 : BitVec 32 := Scalar.addi v48 v49
  v50.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v51 : BitVec 32 := Scalar.muli v2 c4_i32_32
  let v52 : BitVec 32 := Scalar.addi c0_i32_33 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v53 : BitVec 32 := Scalar.muli v5 c2_i32_34
  let v54 : BitVec 32 := Scalar.addi v52 v53
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_35 : BitVec 32 := 1#32
  let v55 : BitVec 32 := Scalar.muli v14 c1_i32_35
  let v56 : BitVec 32 := Scalar.addi v54 v55
  v56.toNat
def k0_cond2 (i : grid0.Coords) : BitVec 1 :=
  let arg0 : BitVec 32 := BitVec.ofNat 32 (i 0).val
  let c4_i32_18 : BitVec 32 := 4#32
  let v32 : BitVec 1 := Scalar.cmpi .slt arg0 c4_i32_18
  let v33 : BitVec 32 := Scalar.extui v32
  let c0_i32_19 : BitVec 32 := 0#32
  let v34 : BitVec 1 := Scalar.cmpi .ne v33 c0_i32_19
  v34

def k0_off1 (d0 : Dev nD) : Fin 4 → Nat :=
  let c0 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v38 : Index := Scalar.indexCast v11
  let c0_21 : Index := 0#32
  let c0_22 : Index := 0#32
  ![0, v38.toNat, 0, 0]
def k0_off2 (d0 : Dev nD) : Fin 4 → Nat :=
  let c0_25 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v44 : Index := Scalar.indexCast v11
  let c1 : Index := 1#32
  let c0_26 : Index := 0#32
  ![0, v44.toNat, 1, 0]
def k0_off3 (d0 : Dev nD) : Fin 4 → Nat :=
  let c0_29 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v51 : Index := Scalar.indexCast v11
  let c2 : Index := 2#32
  let c0_30 : Index := 0#32
  ![0, v51.toNat, 2, 0]
def k0_off4 (d0 : Dev nD) : Fin 4 → Nat :=
  let c0_33 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v58 : Index := Scalar.indexCast v11
  let c3 : Index := 3#32
  let c0_34 : Index := 0#32
  ![0, v58.toNat, 3, 0]
def k0_off5 (d0 : Dev nD) : Fin 4 → Nat :=
  let c0_37 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v65 : Index := Scalar.indexCast v11
  let c4 : Index := 4#32
  let c0_38 : Index := 0#32
  ![0, v65.toNat, 4, 0]
def k0_off6 (d0 : Dev nD) : Fin 4 → Nat :=
  let c0_41 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v72 : Index := Scalar.indexCast v11
  let c5 : Index := 5#32
  let c0_42 : Index := 0#32
  ![0, v72.toNat, 5, 0]
def k0_off7 (d0 : Dev nD) : Fin 4 → Nat :=
  let c0_45 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v79 : Index := Scalar.indexCast v11
  let c6 : Index := 6#32
  let c0_46 : Index := 0#32
  ![0, v79.toNat, 6, 0]
def k0_off8 (d0 : Dev nD) : Fin 4 → Nat :=
  let c0_49 : Index := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c1024_i32_4 : BitVec 32 := 1024#32
  let v11 : BitVec 32 := Scalar.muli v10 c1024_i32_4
  let v86 : Index := Scalar.indexCast v11
  let c7 : Index := 7#32
  let c0_50 : Index := 0#32
  ![0, v86.toNat, 7, 0]
def k0_off9 (d0 : Dev nD) : Fin 4 → Nat :=
  let c0_53 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v93 : Index := Scalar.indexCast v9
  let c0_54 : Index := 0#32
  let c0_55 : Index := 0#32
  ![0, v93.toNat, 0, 0]
def k0_off10 (d0 : Dev nD) : Fin 4 → Nat :=
  let c0_59 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v99 : Index := Scalar.indexCast v9
  let c1_60 : Index := 1#32
  let c0_61 : Index := 0#32
  ![0, v99.toNat, 1, 0]
def k0_off11 (d0 : Dev nD) : Fin 4 → Nat :=
  let c0_65 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v106 : Index := Scalar.indexCast v9
  let c2_66 : Index := 2#32
  let c0_67 : Index := 0#32
  ![0, v106.toNat, 2, 0]
def k0_off12 (d0 : Dev nD) : Fin 4 → Nat :=
  let c0_71 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v113 : Index := Scalar.indexCast v9
  let c3_72 : Index := 3#32
  let c0_73 : Index := 0#32
  ![0, v113.toNat, 3, 0]
def k0_off13 (d0 : Dev nD) : Fin 4 → Nat :=
  let c0_77 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v120 : Index := Scalar.indexCast v9
  let c4_78 : Index := 4#32
  let c0_79 : Index := 0#32
  ![0, v120.toNat, 4, 0]
def k0_off14 (d0 : Dev nD) : Fin 4 → Nat :=
  let c0_83 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v127 : Index := Scalar.indexCast v9
  let c5_84 : Index := 5#32
  let c0_85 : Index := 0#32
  ![0, v127.toNat, 5, 0]
def k0_off15 (d0 : Dev nD) : Fin 4 → Nat :=
  let c0_89 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v134 : Index := Scalar.indexCast v9
  let c6_90 : Index := 6#32
  let c0_91 : Index := 0#32
  ![0, v134.toNat, 6, 0]
def k0_off16 (d0 : Dev nD) : Fin 4 → Nat :=
  let c0_95 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v9 : BitVec 32 := Scalar.muli v2 c1024_i32
  let v141 : Index := Scalar.indexCast v9
  let c7_96 : Index := 7#32
  let c0_97 : Index := 0#32
  ![0, v141.toNat, 7, 0]
def k0_cond3 (i : grid0.Coords) : BitVec 1 :=
  let arg1 : BitVec 32 := BitVec.ofNat 32 (i 1).val
  let c0_i32_101 : BitVec 32 := 0#32
  let v148 : BitVec 1 := Scalar.cmpi .eq arg1 c0_i32_101
  let v149 : BitVec 32 := Scalar.extui v148
  let c0_i32_102 : BitVec 32 := 0#32
  let v150 : BitVec 1 := Scalar.cmpi .ne v149 c0_i32_102
  v150

def k0_off17 (i : grid0.Coords) : Fin 3 → Nat :=
  let arg0 : BitVec 32 := BitVec.ofNat 32 (i 0).val
  let v157 : Index := Scalar.indexCast arg0
  let c0_107 : Index := 0#32
  let c0_108 : Index := 0#32
  ![v157.toNat, 0, 0]
def k0_cond4 (i : grid0.Coords) : BitVec 1 :=
  let arg1 : BitVec 32 := BitVec.ofNat 32 (i 1).val
  let c0_i32_103 : BitVec 32 := 0#32
  let v151 : BitVec 1 := Scalar.cmpi .ne arg1 c0_i32_103
  let v152 : BitVec 32 := Scalar.extui v151
  let c0_i32_104 : BitVec 32 := 0#32
  let v153 : BitVec 1 := Scalar.cmpi .ne v152 c0_i32_104
  v153

def k0_off18 (i : grid0.Coords) : Fin 3 → Nat :=
  let arg0 : BitVec 32 := BitVec.ofNat 32 (i 0).val
  let v157 : Index := Scalar.indexCast arg0
  let c0_107 : Index := 0#32
  let c0_108 : Index := 0#32
  ![v157.toNat, 0, 0]
def k0_cond5 (i : grid0.Coords) : BitVec 1 :=
  let arg1 : BitVec 32 := BitVec.ofNat 32 (i 1).val
  let c3_i32_105 : BitVec 32 := 3#32
  let v154 : BitVec 1 := Scalar.cmpi .eq arg1 c3_i32_105
  let v155 : BitVec 32 := Scalar.extui v154
  let c0_i32_106 : BitVec 32 := 0#32
  let v156 : BitVec 1 := Scalar.cmpi .ne v155 c0_i32_106
  v156

def k0_off19 (i : grid0.Coords) : Fin 1 → Nat :=
  let arg0 : BitVec 32 := BitVec.ofNat 32 (i 0).val
  ![arg0.toNat]
def k0_off20 (i : grid0.Coords) : Fin 3 → Nat :=
  let arg0 : BitVec 32 := BitVec.ofNat 32 (i 0).val
  let c0_i32_111 : BitVec 32 := 0#32
  let c0_i32_112 : BitVec 32 := 0#32
  ![arg0.toNat, 0, 0]
def k0_dev4 (d0 : Dev nD) : Nat :=
  let c0_i32_108 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_107 : BitVec 32 := 4#32
  let v157 : BitVec 32 := Scalar.muli v12 c4_i32_107
  let v158 : BitVec 32 := Scalar.addi c0_i32_108 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v159 : BitVec 32 := Scalar.muli v5 c2_i32_109
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v161 : BitVec 32 := Scalar.muli v8 c1_i32_110
  let v162 : BitVec 32 := Scalar.addi v160 v161
  v162.toNat
def k0_cond6 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_20 : BitVec 32 := 0#32
  let v37 : BitVec 1 := Scalar.cmpi .ne v36 c0_i32_20
  v37

def k0_cond7 (i : grid0.Coords) : BitVec 1 :=
  let arg0 : BitVec 32 := BitVec.ofNat 32 (i 0).val
  let c1_i32_21 : BitVec 32 := 1#32
  let v38 : BitVec 1 := Scalar.cmpi .sge arg0 c1_i32_21
  let c4_i32_22 : BitVec 32 := 4#32
  let v39 : BitVec 1 := Scalar.cmpi .sle arg0 c4_i32_22
  let v40 : BitVec 1 := Scalar.andi v38 v39
  let v41 : BitVec 32 := Scalar.extui v40
  let c0_i32_23 : BitVec 32 := 0#32
  let v42 : BitVec 1 := Scalar.cmpi .ne v41 c0_i32_23
  v42

def k0_off21 (i : grid0.Coords) : Fin 1 → Nat :=
  let arg0 : BitVec 32 := BitVec.ofNat 32 (i 0).val
  let c1_i32_30 : BitVec 32 := 1#32
  let v56 : BitVec 32 := Scalar.subi arg0 c1_i32_30
  ![v56.toNat]
def k0_off22 (i : grid0.Coords) : Fin 3 → Nat :=
  let arg0 : BitVec 32 := BitVec.ofNat 32 (i 0).val
  let c1_i32_30 : BitVec 32 := 1#32
  let v56 : BitVec 32 := Scalar.subi arg0 c1_i32_30
  let c0_i32_35 : BitVec 32 := 0#32
  let c0_i32_36 : BitVec 32 := 0#32
  ![v56.toNat, 0, 0]
def k0_off23 (i : grid0.Coords) : Fin 3 → Nat :=
  let arg0 : BitVec 32 := BitVec.ofNat 32 (i 0).val
  let c1_i32_30 : BitVec 32 := 1#32
  let v56 : BitVec 32 := Scalar.subi arg0 c1_i32_30
  let v69 : Index := Scalar.indexCast v56
  let c0 : Index := 0#32
  let c0_39 : Index := 0#32
  ![v69.toNat, 0, 0]
def k0_off24 (i : grid0.Coords) (d0 : Dev nD) : Fin 3 → Nat :=
  let c0_i32_44 : BitVec 32 := 0#32
  let c0_i32_49 : BitVec 32 := 0#32
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32 : BitVec 32 := 2048#32
  let v80 : BitVec 32 := Scalar.muli v16 c2048_i32
  let arg0 : BitVec 32 := BitVec.ofNat 32 (i 0).val
  let c1_i32_30 : BitVec 32 := 1#32
  let v56 : BitVec 32 := Scalar.subi arg0 c1_i32_30
  let c512_i32 : BitVec 32 := 512#32
  let v81 : BitVec 32 := Scalar.muli v56 c512_i32
  let v82 : BitVec 32 := Scalar.addi v80 v81
  ![0, 0, v82.toNat]
def k0_dev5 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v83 : BitVec 32 := Scalar.muli v2 c4_i32_45
  let v84 : BitVec 32 := Scalar.addi c0_i32_46 v83
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_47 : BitVec 32 := 2#32
  let v85 : BitVec 32 := Scalar.muli v13 c2_i32_47
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v87 : BitVec 32 := Scalar.muli v8 c1_i32_48
  let v88 : BitVec 32 := Scalar.addi v86 v87
  v88.toNat
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v100 : BitVec 32 := Scalar.muli v2 c4_i32_55
  let v101 : BitVec 32 := Scalar.addi c0_i32_56 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v102 : BitVec 32 := Scalar.muli v5 c2_i32_57
  let v103 : BitVec 32 := Scalar.addi v101 v102
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_58 : BitVec 32 := 1#32
  let v104 : BitVec 32 := Scalar.muli v14 c1_i32_58
  let v105 : BitVec 32 := Scalar.addi v103 v104
  v105.toNat
def k0_cond8 (i : grid0.Coords) : BitVec 1 :=
  let arg0 : BitVec 32 := BitVec.ofNat 32 (i 0).val
  let c2_i32_24 : BitVec 32 := 2#32
  let v43 : BitVec 1 := Scalar.cmpi .sge arg0 c2_i32_24
  let c5_i32 : BitVec 32 := 5#32
  let v44 : BitVec 1 := Scalar.cmpi .sle arg0 c5_i32
  let v45 : BitVec 1 := Scalar.andi v43 v44
  let v46 : BitVec 32 := Scalar.extui v45
  let c0_i32_25 : BitVec 32 := 0#32
  let v47 : BitVec 1 := Scalar.cmpi .ne v46 c0_i32_25
  v47

def k0_off25 (i : grid0.Coords) : Fin 1 → Nat :=
  let arg0 : BitVec 32 := BitVec.ofNat 32 (i 0).val
  let c2_i32_30 : BitVec 32 := 2#32
  let v56 : BitVec 32 := Scalar.subi arg0 c2_i32_30
  ![v56.toNat]
def k0_off26 (i : grid0.Coords) (d0 : Dev nD) : Fin 3 → Nat :=
  let c0_i32_31 : BitVec 32 := 0#32
  let c0_i32_36 : BitVec 32 := 0#32
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32 : BitVec 32 := 2048#32
  let v57 : BitVec 32 := Scalar.muli v19 c2048_i32
  let arg0 : BitVec 32 := BitVec.ofNat 32 (i 0).val
  let c2_i32_30 : BitVec 32 := 2#32
  let v56 : BitVec 32 := Scalar.subi arg0 c2_i32_30
  let c512_i32 : BitVec 32 := 512#32
  let v58 : BitVec 32 := Scalar.muli v56 c512_i32
  let v59 : BitVec 32 := Scalar.addi v57 v58
  ![0, 0, v59.toNat]
def k0_off27 (i : grid0.Coords) : Fin 3 → Nat :=
  let arg0 : BitVec 32 := BitVec.ofNat 32 (i 0).val
  let c2_i32_30 : BitVec 32 := 2#32
  let v56 : BitVec 32 := Scalar.subi arg0 c2_i32_30
  let c0_i32_37 : BitVec 32 := 0#32
  let c0_i32_38 : BitVec 32 := 0#32
  ![v56.toNat, 0, 0]
def k0_off28 (i : grid0.Coords) (d0 : Dev nD) : Fin 3 → Nat :=
  let c0_i32_41 : BitVec 32 := 0#32
  let c0_i32_46 : BitVec 32 := 0#32
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c2048_i32_39 : BitVec 32 := 2048#32
  let v72 : BitVec 32 := Scalar.muli v22 c2048_i32_39
  let arg0 : BitVec 32 := BitVec.ofNat 32 (i 0).val
  let c2_i32_30 : BitVec 32 := 2#32
  let v56 : BitVec 32 := Scalar.subi arg0 c2_i32_30
  let c512_i32_40 : BitVec 32 := 512#32
  let v73 : BitVec 32 := Scalar.muli v56 c512_i32_40
  let v74 : BitVec 32 := Scalar.addi v72 v73
  ![0, 0, v74.toNat]
def k0_cond9 (i : grid0.Coords) : BitVec 1 :=
  let arg0 : BitVec 32 := BitVec.ofNat 32 (i 0).val
  let c2_i32_30 : BitVec 32 := 2#32
  let v56 : BitVec 32 := Scalar.subi arg0 c2_i32_30
  let c2_i32_49 : BitVec 32 := 2#32
  let c0_i32_50 : BitVec 32 := 0#32
  let v87 : BitVec 1 := Scalar.cmpi .eq c2_i32_49 c0_i32_50
  let c1_i32_51 : BitVec 32 := 1#32
  let v88 : BitVec 32 := Scalar.select v87 c1_i32_51 c2_i32_49
  let v89 : BitVec 32 := Scalar.remsi v56 v88
  let c0_i32_53 : BitVec 32 := 0#32
  let v91 : BitVec 1 := Scalar.cmpi .slt v89 c0_i32_53
  let c0_i32_54 : BitVec 32 := 0#32
  let v92 : BitVec 1 := Scalar.cmpi .slt v88 c0_i32_54
  let v93 : BitVec 1 := Scalar.xori v91 v92
  let c0_i32_52 : BitVec 32 := 0#32
  let v90 : BitVec 1 := Scalar.cmpi .ne v89 c0_i32_52
  let v94 : BitVec 1 := Scalar.andi v93 v90
  let v95 : BitVec 32 := Scalar.addi v89 v88
  let v96 : BitVec 32 := Scalar.select v94 v95 v89
  let c0_i32_55 : BitVec 32 := 0#32
  let v97 : BitVec 1 := Scalar.cmpi .eq v96 c0_i32_55
  let v98 : BitVec 32 := Scalar.extui v97
  let c0_i32_56 : BitVec 32 := 0#32
  let v99 : BitVec 1 := Scalar.cmpi .ne v98 c0_i32_56
  v99

def k0_off29 (i : grid0.Coords) : Fin 1 → Nat :=
  let arg0 : BitVec 32 := BitVec.ofNat 32 (i 0).val
  let c2_i32_30 : BitVec 32 := 2#32
  let v56 : BitVec 32 := Scalar.subi arg0 c2_i32_30
  ![v56.toNat]
def k0_off30 (i : grid0.Coords) (d0 : Dev nD) : Fin 3 → Nat :=
  let c0_i32_70 : BitVec 32 := 0#32
  let c0_i32_75 : BitVec 32 := 0#32
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_67 : BitVec 32 := 2048#32
  let v116 : BitVec 32 := Scalar.muli v19 c2048_i32_67
  let arg0 : BitVec 32 := BitVec.ofNat 32 (i 0).val
  let c2_i32_30 : BitVec 32 := 2#32
  let v56 : BitVec 32 := Scalar.subi arg0 c2_i32_30
  let c512_i32_68 : BitVec 32 := 512#32
  let v117 : BitVec 32 := Scalar.muli v56 c512_i32_68
  let v118 : BitVec 32 := Scalar.addi v116 v117
  ![0, 0, v118.toNat]
def k0_dev7 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v119 : BitVec 32 := Scalar.muli v2 c4_i32_71
  let v120 : BitVec 32 := Scalar.addi c0_i32_72 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v121 : BitVec 32 := Scalar.muli v5 c2_i32_73
  let v122 : BitVec 32 := Scalar.addi v120 v121
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_74 : BitVec 32 := 1#32
  let v123 : BitVec 32 := Scalar.muli v14 c1_i32_74
  let v124 : BitVec 32 := Scalar.addi v122 v123
  v124.toNat
def k0_cond10 (i : grid0.Coords) : BitVec 1 :=
  let arg0 : BitVec 32 := BitVec.ofNat 32 (i 0).val
  let c2_i32_30 : BitVec 32 := 2#32
  let v56 : BitVec 32 := Scalar.subi arg0 c2_i32_30
  let c2_i32_57 : BitVec 32 := 2#32
  let c0_i32_58 : BitVec 32 := 0#32
  let v100 : BitVec 1 := Scalar.cmpi .eq c2_i32_57 c0_i32_58
  let c1_i32_59 : BitVec 32 := 1#32
  let v101 : BitVec 32 := Scalar.select v100 c1_i32_59 c2_i32_57
  let v102 : BitVec 32 := Scalar.remsi v56 v101
  let c0_i32_61 : BitVec 32 := 0#32
  let v104 : BitVec 1 := Scalar.cmpi .slt v102 c0_i32_61
  let c0_i32_62 : BitVec 32 := 0#32
  let v105 : BitVec 1 := Scalar.cmpi .slt v101 c0_i32_62
  let v106 : BitVec 1 := Scalar.xori v104 v105
  let c0_i32_60 : BitVec 32 := 0#32
  let v103 : BitVec 1 := Scalar.cmpi .ne v102 c0_i32_60
  let v107 : BitVec 1 := Scalar.andi v106 v103
  let v108 : BitVec 32 := Scalar.addi v102 v101
  let v109 : BitVec 32 := Scalar.select v107 v108 v102
  let c1_i32_63 : BitVec 32 := 1#32
  let v110 : BitVec 1 := Scalar.cmpi .eq v109 c1_i32_63
  let v111 : BitVec 32 := Scalar.extui v110
  let c0_i32_64 : BitVec 32 := 0#32
  let v112 : BitVec 1 := Scalar.cmpi .ne v111 c0_i32_64
  v112

def k0_off31 (i : grid0.Coords) : Fin 1 → Nat :=
  let arg0 : BitVec 32 := BitVec.ofNat 32 (i 0).val
  let c2_i32_30 : BitVec 32 := 2#32
  let v56 : BitVec 32 := Scalar.subi arg0 c2_i32_30
  ![v56.toNat]
def k0_off32 (i : grid0.Coords) (d0 : Dev nD) : Fin 3 → Nat :=
  let c0_i32_70 : BitVec 32 := 0#32
  let c0_i32_75 : BitVec 32 := 0#32
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c2048_i32_67 : BitVec 32 := 2048#32
  let v116 : BitVec 32 := Scalar.muli v22 c2048_i32_67
  let arg0 : BitVec 32 := BitVec.ofNat 32 (i 0).val
  let c2_i32_30 : BitVec 32 := 2#32
  let v56 : BitVec 32 := Scalar.subi arg0 c2_i32_30
  let c512_i32_68 : BitVec 32 := 512#32
  let v117 : BitVec 32 := Scalar.muli v56 c512_i32_68
  let v118 : BitVec 32 := Scalar.addi v116 v117
  ![0, 0, v118.toNat]
def k0_dev8 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v119 : BitVec 32 := Scalar.muli v2 c4_i32_71
  let v120 : BitVec 32 := Scalar.addi c0_i32_72 v119
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_73 : BitVec 32 := 2#32
  let v121 : BitVec 32 := Scalar.muli v13 c2_i32_73
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v123 : BitVec 32 := Scalar.muli v8 c1_i32_74
  let v124 : BitVec 32 := Scalar.addi v122 v123
  v124.toNat
def k0_cond11 (i : grid0.Coords) : BitVec 1 :=
  let arg0 : BitVec 32 := BitVec.ofNat 32 (i 0).val
  let c3_i32_26 : BitVec 32 := 3#32
  let v48 : BitVec 1 := Scalar.cmpi .sge arg0 c3_i32_26
  let c6_i32 : BitVec 32 := 6#32
  let v49 : BitVec 1 := Scalar.cmpi .sle arg0 c6_i32
  let v50 : BitVec 1 := Scalar.andi v48 v49
  let v51 : BitVec 32 := Scalar.extui v50
  let c0_i32_27 : BitVec 32 := 0#32
  let v52 : BitVec 1 := Scalar.cmpi .ne v51 c0_i32_27
  v52

def k0_cond12 (i : grid0.Coords) : BitVec 1 :=
  let arg0 : BitVec 32 := BitVec.ofNat 32 (i 0).val
  let c3_i32_30 : BitVec 32 := 3#32
  let v56 : BitVec 32 := Scalar.subi arg0 c3_i32_30
  let c2_i32_31 : BitVec 32 := 2#32
  let c0_i32_32 : BitVec 32 := 0#32
  let v57 : BitVec 1 := Scalar.cmpi .eq c2_i32_31 c0_i32_32
  let c1_i32_33 : BitVec 32 := 1#32
  let v58 : BitVec 32 := Scalar.select v57 c1_i32_33 c2_i32_31
  let v59 : BitVec 32 := Scalar.remsi v56 v58
  let c0_i32_35 : BitVec 32 := 0#32
  let v61 : BitVec 1 := Scalar.cmpi .slt v59 c0_i32_35
  let c0_i32_36 : BitVec 32 := 0#32
  let v62 : BitVec 1 := Scalar.cmpi .slt v58 c0_i32_36
  let v63 : BitVec 1 := Scalar.xori v61 v62
  let c0_i32_34 : BitVec 32 := 0#32
  let v60 : BitVec 1 := Scalar.cmpi .ne v59 c0_i32_34
  let v64 : BitVec 1 := Scalar.andi v63 v60
  let v65 : BitVec 32 := Scalar.addi v59 v58
  let v66 : BitVec 32 := Scalar.select v64 v65 v59
  let c0_i32_37 : BitVec 32 := 0#32
  let v67 : BitVec 1 := Scalar.cmpi .eq v66 c0_i32_37
  let v68 : BitVec 32 := Scalar.extui v67
  let c0_i32_38 : BitVec 32 := 0#32
  let v69 : BitVec 1 := Scalar.cmpi .ne v68 c0_i32_38
  v69

def k0_off33 (i : grid0.Coords) : Fin 1 → Nat :=
  let arg0 : BitVec 32 := BitVec.ofNat 32 (i 0).val
  let c3_i32_30 : BitVec 32 := 3#32
  let v56 : BitVec 32 := Scalar.subi arg0 c3_i32_30
  ![v56.toNat]
def k0_off34 (i : grid0.Coords) (d0 : Dev nD) : Fin 3 → Nat :=
  let c0_i32_50 : BitVec 32 := 0#32
  let c0_i32_55 : BitVec 32 := 0#32
  let c2_i32_14 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2048_i32_47 : BitVec 32 := 2048#32
  let v86 : BitVec 32 := Scalar.muli v26 c2048_i32_47
  let arg0 : BitVec 32 := BitVec.ofNat 32 (i 0).val
  let c3_i32_30 : BitVec 32 := 3#32
  let v56 : BitVec 32 := Scalar.subi arg0 c3_i32_30
  let c512_i32_48 : BitVec 32 := 512#32
  let v87 : BitVec 32 := Scalar.muli v56 c512_i32_48
  let v88 : BitVec 32 := Scalar.addi v86 v87
  ![0, 0, v88.toNat]
def k0_cond13 (i : grid0.Coords) : BitVec 1 :=
  let arg0 : BitVec 32 := BitVec.ofNat 32 (i 0).val
  let c3_i32_30 : BitVec 32 := 3#32
  let v56 : BitVec 32 := Scalar.subi arg0 c3_i32_30
  let c2_i32_39 : BitVec 32 := 2#32
  let c0_i32_40 : BitVec 32 := 0#32
  let v70 : BitVec 1 := Scalar.cmpi .eq c2_i32_39 c0_i32_40
  let c1_i32_41 : BitVec 32 := 1#32
  let v71 : BitVec 32 := Scalar.select v70 c1_i32_41 c2_i32_39
  let v72 : BitVec 32 := Scalar.remsi v56 v71
  let c0_i32_43 : BitVec 32 := 0#32
  let v74 : BitVec 1 := Scalar.cmpi .slt v72 c0_i32_43
  let c0_i32_44 : BitVec 32 := 0#32
  let v75 : BitVec 1 := Scalar.cmpi .slt v71 c0_i32_44
  let v76 : BitVec 1 := Scalar.xori v74 v75
  let c0_i32_42 : BitVec 32 := 0#32
  let v73 : BitVec 1 := Scalar.cmpi .ne v72 c0_i32_42
  let v77 : BitVec 1 := Scalar.andi v76 v73
  let v78 : BitVec 32 := Scalar.addi v72 v71
  let v79 : BitVec 32 := Scalar.select v77 v78 v72
  let c1_i32_45 : BitVec 32 := 1#32
  let v80 : BitVec 1 := Scalar.cmpi .eq v79 c1_i32_45
  let v81 : BitVec 32 := Scalar.extui v80
  let c0_i32_46 : BitVec 32 := 0#32
  let v82 : BitVec 1 := Scalar.cmpi .ne v81 c0_i32_46
  v82

def k0_off35 (i : grid0.Coords) : Fin 1 → Nat :=
  let arg0 : BitVec 32 := BitVec.ofNat 32 (i 0).val
  let c3_i32_30 : BitVec 32 := 3#32
  let v56 : BitVec 32 := Scalar.subi arg0 c3_i32_30
  ![v56.toNat]
def k0_off36 (i : grid0.Coords) (d0 : Dev nD) : Fin 3 → Nat :=
  let c0_i32_50 : BitVec 32 := 0#32
  let c0_i32_55 : BitVec 32 := 0#32
  let c2_i32_14 : BitVec 32 := 2#32
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_13 v5
  let v24 : BitVec 32 := Scalar.muli c2_i32_14 v23
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_15 v8
  let v26 : BitVec 32 := Scalar.addi v24 v25
  let c2048_i32_47 : BitVec 32 := 2048#32
  let v86 : BitVec 32 := Scalar.muli v26 c2048_i32_47
  let arg0 : BitVec 32 := BitVec.ofNat 32 (i 0).val
  let c3_i32_30 : BitVec 32 := 3#32
  let v56 : BitVec 32 := Scalar.subi arg0 c3_i32_30
  let c512_i32_48 : BitVec 32 := 512#32
  let v87 : BitVec 32 := Scalar.muli v56 c512_i32_48
  let v88 : BitVec 32 := Scalar.addi v86 v87
  ![0, 0, v88.toNat]
def k0_cond14 (i : grid0.Coords) : BitVec 1 :=
  let arg0 : BitVec 32 := BitVec.ofNat 32 (i 0).val
  let c6_i32_28 : BitVec 32 := 6#32
  let v53 : BitVec 1 := Scalar.cmpi .eq arg0 c6_i32_28
  let v54 : BitVec 32 := Scalar.extui v53
  let c0_i32_29 : BitVec 32 := 0#32
  let v55 : BitVec 1 := Scalar.cmpi .ne v54 c0_i32_29
  v55

def k0_off37 (d0 : Dev nD) (c0_i32_39 : BitVec 32) : Fin 3 → Nat :=
  let c0_i32_40 : BitVec 32 := 0#32
  let c0_i32_47 : BitVec 32 := 0#32
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_8 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c2048_i32 : BitVec 32 := 2048#32
  let v62 : BitVec 32 := Scalar.muli v16 c2048_i32
  let v63 : BitVec 32 := Scalar.addi v62 c0_i32_39
  ![0, 0, v63.toNat]
def k0_off38 (d0 : Dev nD) (c0_i32_59 : BitVec 32) : Fin 3 → Nat :=
  let c0_i32_63 : BitVec 32 := 0#32
  let c0_i32_67 : BitVec 32 := 0#32
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c2048_i32_58 : BitVec 32 := 2048#32
  let v78 : BitVec 32 := Scalar.muli v19 c2048_i32_58
  let v79 : BitVec 32 := Scalar.addi v78 c0_i32_59
  ![0, 0, v79.toNat]
def k0_off39 (d0 : Dev nD) (c512_i32_106 : BitVec 32) : Fin 3 → Nat :=
  let c0_i32_110 : BitVec 32 := 0#32
  let c0_i32_114 : BitVec 32 := 0#32
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_12 v8
  let v22 : BitVec 32 := Scalar.addi v20 v21
  let c2048_i32_105 : BitVec 32 := 2048#32
  let v118 : BitVec 32 := Scalar.muli v22 c2048_i32_105
  let v119 : BitVec 32 := Scalar.addi v118 c512_i32_106
  ![0, 0, v119.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let c3_i32 : BitVec 32 := 3#32
  let v2 : BitVec 32 := Scalar.minsi arg0 c3_i32
  let v3 : BitVec 32 := Scalar.addi v1 v2
  let c0_i32 : BitVec 32 := 0#32
  ![arg1.toNat, v3.toNat]

abbrev stage0_0 : Fin 2 → Memref sig .tc .vmem S1x2048x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Geom.lean ====
/-
  The kernel's geometry: the three partners of a device on the 2 x 2 x 2 mesh, the slots of the three scratch buffers and of
  the result that the transfers move (one slot is a chunk of 1024 x 512 elements), and the DMA semaphores by ROLE: for each
  chunk `i` one semaphore for the copy to the `x` partner leaving and one for it arriving, the same for the copies to the `y`
  and to the `z` partner, for the FORWARDED chunk (to the `z` partner for an even chunk, to the `y` partner for an odd one), and
  one for the copy into the device's own result.
-/
module

public import proofs.«01_k».proof.Proof.Gen.KernelIdeal.Skeleton
public import proofs.«01_k».proof.Proof.Gen.KernelIdeal.Regions
public import Idealize.ShloMosaic.Lib.Tactic

@[expose] public section

noncomputable section

namespace Cert.KernelIdeal.Talk

open Cert.KernelIdeal Cert.KernelIdeal.Gen
open Idealize.ShloMosaic Idealize.ShloMosaic.TcCoe
open Idealize.SL Idealize.SL.Sem

/-! ## The partners -/

set_option backward.proofsInPublic true in
/-- The partner along `x`: the device that holds the other half of the heads. -/
def px (c : Dev nD) : Dev nD := ⟨(2 * ((c.val / 2) % 2) + (c.val % 2) + 4) - 4 * (c.val / 4), by have h : c.val < 8 := c.isLt; show _ < 8; omega⟩
set_option backward.proofsInPublic true in
/-- The partner along `y`. -/
def py (c : Dev nD) : Dev nD := ⟨(4 * (c.val / 4) + (c.val % 2) + 2) - 2 * ((c.val / 2) % 2), by have h : c.val < 8 := c.isLt; show _ < 8; omega⟩
set_option backward.proofsInPublic true in
/-- The partner along `z`. -/
def pz (c : Dev nD) : Dev nD := ⟨(4 * (c.val / 4) + 2 * ((c.val / 2) % 2) + 1) - (c.val % 2), by have h : c.val < 8 := c.isLt; show _ < 8; omega⟩
set_option backward.proofsInPublic true in
/-- The quarter of the columns a device sums. -/
def qd (c : Dev nD) : Fin 4 := ⟨c.val % 4, Nat.mod_lt _ (by decide)⟩

/-- The device across the `y z` square. -/
def pd (c : Dev nD) : Dev nD := py (pz c)

/-- A chunk with an even number is forwarded along `z`, an odd one along `y`. -/
def ev (i : Fin 4) : Bool := i.val % 2 == 0

/-- Whom chunk `i` is forwarded to, -/
def pf (i : Fin 4) (c : Dev nD) : Dev nD := if ev i then pz c else py c
/-- and whose chunk it is that is forwarded. -/
def fo (i : Fin 4) (c : Dev nD) : Dev nD := if ev i then py c else pz c

theorem px_px (c : Dev nD) : px (px c) = c := by revert c; decide
theorem py_py (c : Dev nD) : py (py c) = c := by revert c; decide
theorem pz_pz (c : Dev nD) : pz (pz c) = c := by revert c; decide
theorem pf_pf (i : Fin 4) (c : Dev nD) : pf i (pf i c) = c := by revert i c; decide
theorem pd_pd (c : Dev nD) : pd (pd c) = c := by revert c; decide
theorem pd_pf (i : Fin 4) (c : Dev nD) : pd (pf i c) = fo i c := by revert i c; decide
theorem fo_pf (i : Fin 4) (c : Dev nD) : fo i (pf i c) = pd c := by revert i c; decide
theorem pd_pz (c : Dev nD) : pd (pz c) = py c := by revert c; decide
theorem pd_py (c : Dev nD) : pd (py c) = pz c := by revert c; decide

/-! ## The slots -/

/-- A chunk's elements. -/
abbrev Blk (F : FTy → Type) : Type := S1024x512.Idx → Elt F .f32

/-- Where slot `i` of a scratch buffer starts, -/
def slotOff (i : Fin 4) : Fin 3 → Nat := ![i.val, 0, 0]
/-- and where chunk `i` of quarter `q` of the result does. -/
def outOff (q i : Fin 4) : Fin 3 → Nat := ![0, 0, 2048 * q.val + 512 * i.val]

theorem slotOff_inb (i : Fin 4) : ∀ a, slotOff i a + S1x1024x512.size a ≤ S4x1024x512.size a := by revert i; decide
theorem outOff_inb (q i : Fin 4) : ∀ a, outOff q i a + S1x1024x512.size a ≤ S1x1024x8192.size a := by revert q i; decide

/-- The three scratch buffers, whole: the sums a device keeps, the ones it sends, the ones it receives. -/
abbrev keepM : Memref sig .tc .vmem S4x1024x512 .f32 := Memref.whole cc0_scratch0
abbrev sendM : Memref sig .tc .vmem S4x1024x512 .f32 := Memref.whole cc0_scratch1
abbrev recvM : Memref sig .tc .vmem S4x1024x512 .f32 := Memref.whole cc0_scratch2
/-- The result, whole. -/
abbrev outM : Memref sig .tc .hbm S1x1024x8192 .f32 := Memref.whole main_v12

/-- The squeezed slice of a scratch buffer at given offsets. -/
abbrev sqV (M : Memref sig .tc .vmem S4x1024x512 .f32) (off : Fin 3 → Nat) (h : ∀ a, off a + S1x1024x512.size a ≤ S4x1024x512.size a) :
    Memref sig .tc .vmem S1024x512 .f32 :=
  (M.slice (Rect.unit (s := S4x1024x512) off S1x1024x512.size h) (fun _ => rfl)).squeeze S1024x512 squeezes_S1x1024x512_S1024x512
/-- The squeezed slice of the result at given offsets. -/
abbrev sqO (off : Fin 3 → Nat) (h : ∀ a, off a + S1x1024x512.size a ≤ S1x1024x8192.size a) :
    Memref sig .tc .hbm S1024x512 .f32 :=
  (outM.slice (Rect.unit (s := S1x1024x8192) off S1x1024x512.size h) (fun _ => rfl)).squeeze S1024x512 squeezes_S1x1024x512_S1024x512

/-- Slot `i` of each buffer, and chunk `i` of quarter `q` of the result. -/
def keepS (i : Fin 4) : Memref sig .tc .vmem S1024x512 .f32 := sqV keepM (slotOff i) (slotOff_inb i)
def sendS (i : Fin 4) : Memref sig .tc .vmem S1024x512 .f32 := sqV sendM (slotOff i) (slotOff_inb i)
def recvS (i : Fin 4) : Memref sig .tc .vmem S1024x512 .f32 := sqV recvM (slotOff i) (slotOff_inb i)
def outS (q i : Fin 4) : Memref sig .tc .hbm S1024x512 .f32 := sqO (outOff q i) (outOff_inb q i)

theorem sqV_congr (M : Memref sig .tc .vmem S4x1024x512 .f32) {off off' : Fin 3 → Nat} (e : off = off')
    (h : ∀ a, off a + S1x1024x512.size a ≤ S4x1024x512.size a) (h' : ∀ a, off' a + S1x1024x512.size a ≤ S4x1024x512.size a) :
    sqV M off h = sqV M off' h' := by subst e; rfl
theorem sqO_congr {off off' : Fin 3 → Nat} (e : off = off')
    (h : ∀ a, off a + S1x1024x512.size a ≤ S1x1024x8192.size a) (h' : ∀ a, off' a + S1x1024x512.size a ≤ S1x1024x8192.size a) :
    sqO off h = sqO off' h' := by subst e; rfl

theorem keepS_of {off : Fin 3 → Nat} {i : Fin 4} (e : off = slotOff i) (h : ∀ a, off a + S1x1024x512.size a ≤ S4x1024x512.size a) :
    sqV keepM off h = keepS i := sqV_congr keepM e h _
theorem sendS_of {off : Fin 3 → Nat} {i : Fin 4} (e : off = slotOff i) (h : ∀ a, off a + S1x1024x512.size a ≤ S4x1024x512.size a) :
    sqV sendM off h = sendS i := sqV_congr sendM e h _
theorem recvS_of {off : Fin 3 → Nat} {i : Fin 4} (e : off = slotOff i) (h : ∀ a, off a + S1x1024x512.size a ≤ S4x1024x512.size a) :
    sqV recvM off h = recvS i := sqV_congr recvM e h _
theorem outS_of {off : Fin 3 → Nat} {q i : Fin 4} (e : off = outOff q i) (h : ∀ a, off a + S1x1024x512.size a ≤ S1x1024x8192.size a) :
    sqO off h = outS q i := sqO_congr e h _

/-! ## The semaphores by role -/

/-- The roles: leaving and arriving along `x`, `y`, `z`, forwarded, and into the device's own result. -/
inductive Role | xs | xr | ys | yr | zs | zr | fs | fr | lc
  deriving DecidableEq

instance : Fintype Role where
  elems := {.xs, .xr, .ys, .yr, .zs, .zr, .fs, .fr, .lc}
  complete := fun ρ => by cases ρ <;> decide

/-- The number of the semaphore with role `ρ` for chunk `i`. -/
def semNat (ρ : Role) (i : Fin 4) : Nat :=
  match ρ with
  | .xs => 4 + i.val | .xr => 8 + i.val | .ys => 12 + i.val | .yr => 16 + i.val | .zs => 20 + i.val | .zr => 24 + i.val
  | .fs => (if ev i then 28 else 36) + i.val | .fr => (if ev i then 32 else 40) + i.val | .lc => 44 + i.val

theorem semNat_lt (ρ : Role) (i : Fin 4) : semNat ρ i < 48 := by revert ρ i; decide

/-- The semaphore with role `ρ` for chunk `i`. -/
def semOf (ρ : Role) (i : Fin 4) : DmaSem sig := ⟨semNat ρ i, semNat_lt ρ i⟩

theorem semOf_inj_all : ∀ (ρ ρ' : Role) (i i' : Fin 4), semOf ρ i = semOf ρ' i' → ρ = ρ' ∧ i = i' := by decide +kernel
theorem semOf_inj {ρ ρ' : Role} {i i' : Fin 4} (h : semOf ρ i = semOf ρ' i') : ρ = ρ' ∧ i = i' := semOf_inj_all ρ ρ' i i' h

/-- The role and chunk of a semaphore, if it has one. -/
def dec (s : DmaSem sig) : Option (Role × Fin 4) :=
  (Finset.univ : Finset (Role × Fin 4)).toList.find? fun p => semOf p.1 p.2 = s

theorem dec_semOf (ρ : Role) (i : Fin 4) : dec (semOf ρ i) = some (ρ, i) := by
  unfold dec
  cases h : (Finset.univ : Finset (Role × Fin 4)).toList.find? fun p => semOf p.1 p.2 = semOf ρ i with
  | none =>
    have := List.find?_eq_none.mp h (ρ, i) (Finset.mem_toList.mpr (Finset.mem_univ _))
    simp at this
  | some p =>
    have := List.find?_some h
    obtain ⟨h1, h2⟩ := semOf_inj (of_decide_eq_true this)
    rw [← h1, ← h2]

/-- The two semaphores of chunk `i` that its parity leaves unused. -/
def idleSem (j : Bool) (i : Fin 4) : DmaSem sig :=
  if ev i then (if j then ⟨36 + i.val, by have := i.isLt; show _ < 48; omega⟩ else ⟨40 + i.val, by have := i.isLt; show _ < 48; omega⟩)
  else (if j then ⟨28 + i.val, by have := i.isLt; show _ < 48; omega⟩ else ⟨32 + i.val, by have := i.isLt; show _ < 48; omega⟩)

/-- The scalar semaphore at position `off` of a row of four. -/
abbrev sqS (A : DmaSems sig S4) (off : Fin 1 → Nat) (h : ∀ a, off a + S1.size a ≤ S4.size a) : DmaSem sig :=
  ((A.slice (Rect.unit (s := S4) off S1.size h)).squeeze S_ squeezes_S1_S_).sem

theorem sqS_congr (A : DmaSems sig S4) {off off' : Fin 1 → Nat} (e : off = off')
    (h : ∀ a, off a + S1.size a ≤ S4.size a) (h' : ∀ a, off' a + S1.size a ≤ S4.size a) : sqS A off h = sqS A off' h' := by subst e; rfl

theorem semOff_inb (i : Fin 4) : ∀ a, (![i.val] : Fin 1 → Nat) a + S1.size a ≤ S4.size a := by revert i; decide

theorem sem_xs (i : Fin 4) : sqS cc0_scratch3 ![i.val] (semOff_inb i) = semOf .xs i := by revert i; decide
theorem sem_xr (i : Fin 4) : sqS cc0_scratch4 ![i.val] (semOff_inb i) = semOf .xr i := by revert i; decide
theorem sem_ys (i : Fin 4) : sqS cc0_scratch5 ![i.val] (semOff_inb i) = semOf .ys i := by revert i; decide
theorem sem_yr (i : Fin 4) : sqS cc0_scratch6 ![i.val] (semOff_inb i) = semOf .yr i := by revert i; decide
theorem sem_zs (i : Fin 4) : sqS cc0_scratch7 ![i.val] (semOff_inb i) = semOf .zs i := by revert i; decide
theorem sem_zr (i : Fin 4) : sqS cc0_scratch8 ![i.val] (semOff_inb i) = semOf .zr i := by revert i; decide
theorem sem_fs_ev (i : Fin 4) (h : ev i = true) : sqS cc0_scratch9 ![i.val] (semOff_inb i) = semOf .fs i := by revert i; decide
theorem sem_fr_ev (i : Fin 4) (h : ev i = true) : sqS cc0_scratch10 ![i.val] (semOff_inb i) = semOf .fr i := by revert i; decide
theorem sem_fs_od (i : Fin 4) (h : ev i = false) : sqS cc0_scratch11 ![i.val] (semOff_inb i) = semOf .fs i := by revert i; decide
theorem sem_fr_od (i : Fin 4) (h : ev i = false) : sqS cc0_scratch12 ![i.val] (semOff_inb i) = semOf .fr i := by revert i; decide
theorem sem_lc (i : Fin 4) : sqS cc0_scratch13 ![i.val] (semOff_inb i) = semOf .lc i := by revert i; decide

/-! ## What the kernel computes -/

theorem dev1_eq (c : Dev nD) (h : k0_dev1 c < nD) : (⟨k0_dev1 c, h⟩ : Dev nD) = px c := Fin.ext (k0_dev1_eq c)
theorem dev2_eq (c : Dev nD) (h : k0_dev2 c < nD) : (⟨k0_dev2 c, h⟩ : Dev nD) = py c := Fin.ext (k0_dev2_eq c)
theorem dev3_eq (c : Dev nD) (h : k0_dev3 c < nD) : (⟨k0_dev3 c, h⟩ : Dev nD) = pz c := Fin.ext (k0_dev3_eq c)
theorem dev4_eq (c : Dev nD) (h : k0_dev4 c < nD) : (⟨k0_dev4 c, h⟩ : Dev nD) = px c := Fin.ext (k0_dev4_eq c)
theorem dev5_eq (c : Dev nD) (h : k0_dev5 c < nD) : (⟨k0_dev5 c, h⟩ : Dev nD) = py c := Fin.ext (k0_dev5_eq c)
theorem dev6_eq (c : Dev nD) (h : k0_dev6 c < nD) : (⟨k0_dev6 c, h⟩ : Dev nD) = pz c := Fin.ext (k0_dev6_eq c)
theorem dev7_eq (c : Dev nD) (h : k0_dev7 c < nD) : (⟨k0_dev7 c, h⟩ : Dev nD) = pz c := Fin.ext (k0_dev7_eq c)
theorem dev8_eq (c : Dev nD) (h : k0_dev8 c < nD) : (⟨k0_dev8 c, h⟩ : Dev nD) = py c := Fin.ext (k0_dev8_eq c)

/-- The first and second grid coordinate of a point, as numbers. -/
abbrev gb (p : grid0.Coords) : Nat := (p 0).val
abbrev gk (p : grid0.Coords) : Nat := (p 1).val

theorem cond1_iff : ∀ p : grid0.Coords, k0_cond1 p = 1#1 ↔ gb p = 0 ∧ gk p = 0 := by decide +kernel
theorem cond2_iff : ∀ p : grid0.Coords, k0_cond2 p = 1#1 ↔ gb p < 4 := by decide +kernel
theorem cond3_iff : ∀ p : grid0.Coords, k0_cond3 p = 1#1 ↔ gk p = 0 := by decide +kernel
theorem cond4_iff : ∀ p : grid0.Coords, k0_cond4 p = 1#1 ↔ gk p ≠ 0 := by decide +kernel
theorem cond5_iff : ∀ p : grid0.Coords, k0_cond5 p = 1#1 ↔ gk p = 3 := by decide +kernel
theorem cond6_iff : ∀ p : grid0.Coords, k0_cond6 p = 1#1 ↔ gk p = 3 := by decide +kernel
theorem cond7_iff : ∀ p : grid0.Coords, k0_cond7 p = 1#1 ↔ 1 ≤ gb p ∧ gb p ≤ 4 := by decide +kernel
theorem cond8_iff : ∀ p : grid0.Coords, k0_cond8 p = 1#1 ↔ 2 ≤ gb p ∧ gb p ≤ 5 := by decide +kernel
theorem cond9_iff : ∀ p : grid0.Coords, 2 ≤ gb p → (k0_cond9 p = 1#1 ↔ gb p % 2 = 0) := by decide +kernel
theorem cond10_iff : ∀ p : grid0.Coords, 2 ≤ gb p → (k0_cond10 p = 1#1 ↔ gb p % 2 = 1) := by decide +kernel
theorem cond11_iff : ∀ p : grid0.Coords, k0_cond11 p = 1#1 ↔ 3 ≤ gb p := by decide +kernel
theorem cond12_iff : ∀ p : grid0.Coords, 3 ≤ gb p → (k0_cond12 p = 1#1 ↔ gb p % 2 = 1) := by decide +kernel
theorem cond13_iff : ∀ p : grid0.Coords, 3 ≤ gb p → (k0_cond13 p = 1#1 ↔ gb p % 2 = 0) := by decide +kernel
theorem cond14_iff : ∀ p : grid0.Coords, k0_cond14 p = 1#1 ↔ gb p = 6 := by decide +kernel

theorem off21_eq : ∀ p : grid0.Coords, 1 ≤ gb p → k0_off21 p = ![gb p - 1] := by decide +kernel
theorem off22_eq : ∀ p : grid0.Coords, 1 ≤ gb p → k0_off22 p = ![gb p - 1, 0, 0] := by decide +kernel
theorem off23_eq : ∀ p : grid0.Coords, 1 ≤ gb p → k0_off23 p = ![gb p - 1, 0, 0] := by decide +kernel
theorem off24_eq : ∀ (p : grid0.Coords) (c : Dev nD), 1 ≤ gb p → k0_off24 p c = ![0, 0, 2048 * (c.val % 4) + 512 * (gb p - 1)] := by decide +kernel
theorem off25_eq : ∀ p : grid0.Coords, 2 ≤ gb p → k0_off25 p = ![gb p - 2] := by decide +kernel
theorem off29_eq : ∀ p : grid0.Coords, 2 ≤ gb p → k0_off29 p = ![gb p - 2] := by decide +kernel
theorem off30_eq : ∀ (p : grid0.Coords) (c : Dev nD), 2 ≤ gb p → k0_off30 p c = ![0, 0, 2048 * ((py c).val % 4) + 512 * (gb p - 2)] := by decide +kernel
theorem off31_eq : ∀ p : grid0.Coords, 2 ≤ gb p → k0_off31 p = ![gb p - 2] := by decide +kernel
theorem off32_eq : ∀ (p : grid0.Coords) (c : Dev nD), 2 ≤ gb p → k0_off32 p c = ![0, 0, 2048 * ((pz c).val % 4) + 512 * (gb p - 2)] := by decide +kernel
theorem off33_eq : ∀ p : grid0.Coords, 3 ≤ gb p → k0_off33 p = ![gb p - 3] := by decide +kernel
theorem off35_eq : ∀ p : grid0.Coords, 3 ≤ gb p → k0_off35 p = ![gb p - 3] := by decide +kernel

end Cert.KernelIdeal.Talk

end
-- ==== Proof.Contents.lean ====
/-
  What the buffers hold. The prefetched table names the device's quarter, so the second window stages the columns of that
  quarter; from the two staged blocks a grid point computes one summand of the chunk the device SENDS to its `x` partner (the
  rows the partner keeps) and one of the chunk it KEEPS; over the four points of a chunk they add up, and the kept chunk then
  takes the partner's summand in.
-/
module

public import proofs.«01_k».proof.Proof.Geom

@[expose] public section

noncomputable section

namespace Cert.KernelIdeal.Talk

open Cert.KernelIdeal Cert.KernelIdeal.Gen
open Idealize.ShloMosaic Idealize.ShloMosaic.TcCoe
open Idealize.SL Idealize.SL.Sem

variable {F : FTy → Type} [FloatOps F]

/-! ## The table -/

/-- The table on device `c`: the number of its quarter. -/
def tab (c : Dev nD) : (pre0 : Pipeline.Prefetch sig).Contents (Elt F) :=
  fun | 0 => (fun _ => (BitVec.ofNat 32 (c.val % 4) : BitVec 32)) | ⟨_ + 1, h⟩ => absurd h (Nat.not_lt.2 (Nat.le_add_left _ _))

/-- The second window's index map under that table: block row `k`, block column `4 q + min b 3`. -/
theorem transform_tab (c : Dev nD) (p : grid0.Coords) :
    cc0_transform_1 inb_S1_S1_0 numel1_S1 (tab (F := F) c) p = ![gk p, 4 * (c.val % 4) + min (gb p) 3] := by
  have h : cc0_transform_1 inb_S1_S1_0 numel1_S1 (tab (F := F) c) p
      = ![(BitVec.ofNat 32 (p 1).val).toNat, (Scalar.addi (Scalar.muli (BitVec.ofNat 32 (c.val % 4)) 4#32) (Scalar.minsi (BitVec.ofNat 32 (p 0).val) 3#32)).toNat] := rfl
  rw [h]
  clear h
  revert c p
  decide +kernel

theorem ok_tab (c : Dev nD) : ok0 (tab (F := F) c) := by
  unfold ok0
  intro p
  rw [transform_tab]
  revert c p
  decide +kernel

/-- The call's pipeline pinned at each device's table. -/
def adm (c : Dev nD) (_ : Fin 1) : (pcfg0 (F := F)).Adm := ⟨tab c, ok_tab c⟩

/-! ## The staged blocks -/

variable (m : (ℓ : Loc nD τ sig) → Buf (Elt F) ℓ)

/-- The block of heads staged at point `t`, -/
def ob (c : Dev nD) (t : Fin grid0.N) : S1x2048x8x128.Idx → Elt F .f32 :=
  (((cfg0 (F := F) (adm c 0)).win 0).blk t).view.read (Elt F) (m ((c : Thread nD τ).loc main_arg0))
/-- and the block of the weights. -/
def wb (c : Dev nD) (t : Fin grid0.N) : S1024x512.Idx → Elt F .f32 :=
  (((cfg0 (F := F) (adm c 0)).win 1).blk t).view.read (Elt F) (m ((c : Thread nD τ).loc main_arg1))

/-! ## One point's two summands -/

theorem ldO_inb (h : Fin 2) (n : Fin 8) : ∀ a, (![0, 1024 * h.val, n.val, 0] : Fin 4 → Nat) a + S1x1024x1x128.size a ≤ S1x2048x8x128.size a := by
  revert h n; decide
/-- Half `h` of the rows of head `n` of a staged block of heads. -/
def ldO (h : Fin 2) (n : Fin 8) (X : S1x2048x8x128.Idx → Elt F .f32) : Vec F S1x1024x1x128 .f32 :=
  fun x => X ((Rect.unit (s := S1x2048x8x128) ![0, 1024 * h.val, n.val, 0] S1x1024x1x128.size (ldO_inb h n)).toLoadRect.idx x)
theorem ldW_inb (n : Fin 8) : ∀ a, (![128 * n.val, 0] : Fin 2 → Nat) a + S128x512.size a ≤ S1024x512.size a := by revert n; decide
/-- The rows of a staged block of the weights that head `n` meets. -/
def ldW (n : Fin 8) (W : S1024x512.Idx → Elt F .f32) : Vec F S128x512 .f32 :=
  fun x => W ((Rect.unit (s := S1024x512) ![128 * n.val, 0] S128x512.size (ldW_inb n)).toLoadRect.idx x)

theorem ldO_of {off : Fin 4 → Nat} {h : Fin 2} {n : Fin 8} (e : off = ![0, 1024 * h.val, n.val, 0]) (X : S1x2048x8x128.Idx → Elt F .f32)
    (hi : ∀ a, off a + S1x1024x1x128.size a ≤ S1x2048x8x128.size a) :
    (fun x => X ((Rect.unit (s := S1x2048x8x128) off S1x1024x1x128.size hi).toLoadRect.idx x)) = ldO h n X := by subst e; rfl
theorem ldW_of {off : Fin 2 → Nat} {n : Fin 8} (e : off = ![128 * n.val, 0]) (W : S1024x512.Idx → Elt F .f32)
    (hi : ∀ a, off a + S128x512.size a ≤ S1024x512.size a) :
    (fun x => W ((Rect.unit (s := S1024x512) off S128x512.size hi).toLoadRect.idx x)) = ldW n W := by subst e; rfl

/-- The half of the rows a device keeps, and the half it sends. -/
def kh (c : Dev nD) : Fin 2 := ⟨c.val / 4, by have h : c.val < 8 := c.isLt; omega⟩
def sh (c : Dev nD) : Fin 2 := ⟨1 - c.val / 4, by omega⟩

/-- The summand of the sent chunk from staged blocks `X`, `W`, over half `h` of the rows. -/
def sSum (h : Fin 2) (X : S1x2048x8x128.Idx → Elt F .f32) (W : S1024x512.Idx → Elt F .f32) : Blk F :=
  k0_pay8 (k0_pay6 (ldO h 0 X) (ldW 0 W) (ldO h 1 X) (ldW 1 W) (ldO h 2 X) (ldW 2 W) (ldO h 3 X) (ldW 3 W))
    (k0_pay7 (ldO h 4 X)) (ldW 4 W) (ldO h 5 X) (ldW 5 W) (ldO h 6 X) (ldW 6 W) (ldO h 7 X) (ldW 7 W)
/-- The first six heads of the kept chunk's summand, -/
def kSum6 (h : Fin 2) (X : S1x2048x8x128.Idx → Elt F .f32) (W : S1024x512.Idx → Elt F .f32) : Blk F :=
  k0_pay10 (k0_pay9 (ldO h 0 X) (ldW 0 W)) (ldO h 1 X) (ldW 1 W) (ldO h 2 X) (ldW 2 W) (ldO h 3 X) (ldW 3 W)
    (ldO h 4 X) (ldW 4 W) (ldO h 5 X) (ldW 5 W)
/-- and all of it. -/
def kSum (h : Fin 2) (X : S1x2048x8x128.Idx → Elt F .f32) (W : S1024x512.Idx → Elt F .f32) : Blk F :=
  k0_pay1 (kSum6 h X W) (ldO h 6 X) (ldW 6 W) (ldO h 7 X) (ldW 7 W)

/-! ## A chunk in a slot -/

/-- A chunk as a slot of one leading index, -/
def unsq (B : Blk F) : S1x1024x512.Idx → Elt F .f32 := shapeCast S1x1024x512 B shapeCasts_S1024x512_S1x1024x512
/-- and back. -/
def sqz (v : S1x1024x512.Idx → Elt F .f32) : Blk F := shapeCast S1024x512 v shapeCasts_S1x1024x512_S1024x512

omit [FloatOps F] in
theorem sqz_unsq (B : Blk F) : sqz (unsq B) = B := by
  unfold sqz unsq shapeCast
  funext x
  exact congrArg B (Equiv.apply_symm_apply _ _)

/-! ## The chunks -/

/-- The grid's points number 28; point `4 b + k`. -/
def pt (b k : Nat) (h : 4 * b + k < 28) : Fin grid0.N := ⟨4 * b + k, by rw [N_0]; exact h⟩

/-- The point of chunk `i` and step `k`. -/
def cpt (i : Fin 4) (k : Nat) : Fin grid0.N := ⟨4 * i.val + k % 4, by rw [N_0]; have := i.isLt; omega⟩

/-- What the sent slot of chunk `i` holds after `k + 1` of its points, -/
def sAcc (c : Dev nD) (i : Fin 4) : Nat → Blk F
  | 0 => sSum (sh c) (ob m c (cpt i 0)) (wb m c (cpt i 0))
  | k + 1 => sqz (k0_pay4 (sSum (sh c) (ob m c (cpt i (k + 1))) (wb m c (cpt i (k + 1)))) (unsq (sAcc c i k)))
/-- and what the kept slot does. -/
def kAcc (c : Dev nD) (i : Fin 4) : Nat → Blk F
  | 0 => kSum (kh c) (ob m c (cpt i 0)) (wb m c (cpt i 0))
  | k + 1 => sqz (k0_pay5 (kSum6 (kh c) (ob m c (cpt i (k + 1))) (wb m c (cpt i (k + 1))))
      (ldO (kh c) 6 (ob m c (cpt i (k + 1)))) (ldW 6 (wb m c (cpt i (k + 1))))
      (ldO (kh c) 7 (ob m c (cpt i (k + 1)))) (ldW 7 (wb m c (cpt i (k + 1)))) (unsq (kAcc c i k)))

/-- The chunk device `c` sends, -/
def sendV (c : Dev nD) (i : Fin 4) : Blk F := sAcc m c i 3
/-- and the chunk of the result it computes: its kept chunk and the one its `x` partner sent. -/
def keepV (c : Dev nD) (i : Fin 4) : Blk F := sqz (k0_pay11 (unsq (kAcc m c i 3)) (unsq (sendV m (px c) i)))

end Cert.KernelIdeal.Talk

end
-- ==== Proof.Proto.lean ====
/-
  The protocol. One cell per device for the entry handshake and one per device, role and chunk for the transfers; every cell has
  one round. The handshake's round has three duties, one for each partner: paying one hands over the slots the receiver of
  the unit will write on the payer, with the fact that the payer has opened the cells those transfers credit. A
  transfer's cell hands over the slot with its contents: at the source what was read, at the target what was written.

  What each device owes at the start, and the levels under which every wait lies below what is then owed: the handshake at 1, the
  arrival of chunk `i` along `x` at `i + 2`, along `y` and `z` at `i + 3`, of the forwarded chunk at `i + 4`.
-/
module

public import proofs.«01_k».proof.Proof.Contents
public import Idealize.ShloMosaic.Lib.Pipeline.Launch
public import Idealize.ShloMosaic.Lib.Rounds
public import Idealize.ShloMosaic.Lib.Memref
public import Idealize.ShloMosaic.Lib.MemrefSat

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The pipeline's rounds, and the protocol's, whose duties are named by the partner that pays. -/
abbrev URp : Type := URounds (GSem nD τ sig) Unit
abbrev URt : Type := URounds (GSem nD τ sig) (Fin 3)
abbrev UU : Type := URp × URt

local notation "𝕄" => MT nD τ sig Unit (Elt F) ℕ UU ℕ

def EP : Emb URp (MT nD τ sig Unit (Elt F) ℕ UU ℕ) :=
  (Emb.inl : Emb URp UU).trans (uEmb (nD := nD) (sig := sig) (Ix := Unit) (Val := Elt F) (Name := ℕ) (U := UU) (Lvl := ℕ)).toEmb
def ER : Emb URt (MT nD τ sig Unit (Elt F) ℕ UU ℕ) :=
  (Emb.inr : Emb URt UU).trans (uEmb (nD := nD) (sig := sig) (Ix := Unit) (Val := Elt F) (Name := ℕ) (U := UU) (Lvl := ℕ)).toEmb

instance EP_landsIn : (EP : Emb URp 𝕄).LandsIn (upEmb : UEmb _ 𝕄) := by unfold EP; infer_instance
instance ER_landsIn : (ER : Emb URt 𝕄).LandsIn (upEmb : UEmb _ 𝕄) := by unfold ER; infer_instance

/-! ## The cells -/

/-- The handshake's cell of device `c`, -/
abbrev barCell (c : Dev nD) : GSem nD τ sig := ((c : Thread nD τ), .reg barrier0)
/-- and the cell with role `ρ` for chunk `i`. -/
abbrev cl (c : Dev nD) (ρ : Role) (i : Fin 4) : GSem nD τ sig := ((c : Thread nD τ), .dma (semOf ρ i))

theorem cl_inj {c c' : Dev nD} {ρ ρ' : Role} {i i' : Fin 4} (h : cl c ρ i = cl c' ρ' i') : c = c' ∧ ρ = ρ' ∧ i = i' := by
  simp only [cl, Prod.mk.injEq, SemLoc.dma.injEq, and_true] at h
  exact ⟨h.1, semOf_inj h.2⟩

/-- What a transfer of one chunk credits: into a scratch slot, and into a chunk of the result. -/
abbrev NX : Nat := (recvS 0).view.dmaCredit
abbrev NO : Nat := (outS 0 0).view.dmaCredit

def amt (ρ : Role) : Nat := match ρ with | .xs | .xr => NX | _ => NO

theorem NX_pos : 0 < NX := View.dmaCredit_pos _ (by decide)
theorem NO_pos : 0 < NO := View.dmaCredit_pos _ (by decide)
theorem amt_pos (ρ : Role) : 0 < amt ρ := by cases ρ <;> first | exact NX_pos | exact NO_pos

/-- The shares of a kept chunk that the copies along `y`, along `z` and into the own result read through. -/
abbrev qy : PosShare TreeShare := (fullShare : PosShare TreeShare).left
abbrev qz : PosShare TreeShare := (fullShare : PosShare TreeShare).right.left
abbrev ql : PosShare TreeShare := (fullShare : PosShare TreeShare).right.right

/-! ## The payloads -/

variable (m : (ℓ : Loc nD τ sig) → Buf (Elt F) ℓ)

/-- A slot of device `c` at anything. -/
abbrev anyS (c : Dev nD) {sp : Space} (M : Memref sig .tc sp S1024x512 .f32) : sProp 𝕄 := iprop(∃ X : Blk F, ownsTc c M fullShare X)

/-- What the cell with role `ρ` for chunk `i` hands device `c`. -/
def pay (ρ : Role) (i : Fin 4) (c : Dev nD) : sProp 𝕄 :=
  match ρ with
  | .xs => ownsTc c (sendS i) fullShare (sendV m c i)
  | .xr => ownsTc c (recvS i) fullShare (sendV m (px c) i)
  | .ys => ownsTc c (keepS i) qy (keepV m c i)
  | .yr => ownsTc c (outS (qd (py c)) i) fullShare (keepV m (py c) i)
  | .zs => ownsTc c (keepS i) qz (keepV m c i)
  | .zr => ownsTc c (outS (qd (pz c)) i) fullShare (keepV m (pz c) i)
  | .fs => ownsTc c (outS (qd (fo i c)) i) fullShare (keepV m (fo i c) i)
  | .fr => ownsTc c (outS (qd (pd c)) i) fullShare (keepV m (pd c) i)
  | .lc => iprop(ownsTc c (outS (qd c) i) fullShare (keepV m c i) ∗ ownsTc c (keepS i) ql (keepV m c i))

/-- What device `c` needs to forward chunk `i`: the target's slot, and that the target has opened its cell. -/
def giftF (i : Fin 4) (c : Dev nD) : sProp 𝕄 :=
  iprop(anyS (F := F) (pf i c) (outS (qd (fo i c)) i) ∗ reached ER (cl (pf i c) .fr i) 0)

/-- What each partner's unit on its handshake cell hands device `c`, for one chunk. -/
def gift (d : Fin 3) (c : Dev nD) (i : Fin 4) : sProp 𝕄 :=
  match d with
  | 0 => iprop(anyS (F := F) (px c) (recvS i) ∗ reached ER (cl (px c) .xr i) 0)
  | 1 => iprop((anyS (F := F) (py c) (outS (qd c) i) ∗ reached ER (cl (py c) .yr i) 0) ∗ if ev i then iprop(emp) else giftF (F := F) i c)
  | 2 => iprop((anyS (F := F) (pz c) (outS (qd c) i) ∗ reached ER (cl (pz c) .zr i) 0) ∗ if ev i then giftF (F := F) i c else iprop(emp))

def barPay (d : Fin 3) (c : Dev nD) : sProp 𝕄 := bigSep Finset.univ fun i => gift (F := F) d c i

/-! ## The schedule -/

def dutiesOf (s : SemLoc sig) : Finset (Fin 3) :=
  match s with
  | .reg s => if s = barrier0 then Finset.univ else ∅
  | .dma s => match dec s with | some _ => {0} | none => ∅

def dutiesAt (g : GSem nD τ sig) (r : ℕ) : Finset (Fin 3) := if r = 0 ∧ g.1.2 = .tc then dutiesOf g.2 else ∅

def amountAt (s : SemLoc sig) : Nat :=
  match s with
  | .reg _ => 1
  | .dma s => match dec s with | some p => amt p.1 | none => 1

theorem amountAt_pos (s : SemLoc sig) : 0 < amountAt s := by
  unfold amountAt
  cases s with
  | reg s => exact Nat.one_pos
  | dma s =>
    dsimp only
    cases dec s with
    | none => exact Nat.one_pos
    | some p => exact amt_pos _

def payAt (s : SemLoc sig) (d : Fin 3) (c : Dev nD) : sProp 𝕄 :=
  match s with
  | .reg _ => barPay (F := F) d c
  | .dma s => match dec s with | some p => pay m p.1 p.2 c | none => iprop(emp)

def Rd : Rounds.Schedule (GSem nD τ sig) (Fin 3) 𝕄 where
  duties g r := dutiesAt g r
  unitless _ := False
  amount g _ _ := amountAt g.2
  payload g _ d := payAt m g.2 d g.1.1
  amount_pos g _ _ _ := amountAt_pos g.2

instance pay_storable (ρ : Role) (i : Fin 4) (c : Dev nD) : BI.Storable (upEmb : UEmb _ 𝕄) (pay m ρ i c) := by
  cases ρ <;> (unfold pay; infer_instance)
omit [FloatOps F] in
instance giftF_storable (i : Fin 4) (c : Dev nD) : BI.Storable (upEmb : UEmb _ 𝕄) (giftF (F := F) i c) := by
  unfold giftF; infer_instance
omit [FloatOps F] in
instance gift_storable (d : Fin 3) (c : Dev nD) (i : Fin 4) : BI.Storable (upEmb : UEmb _ 𝕄) (gift (F := F) d c i) := by
  have h1 : BI.Storable (upEmb : UEmb _ 𝕄) (if ev i then iprop(emp) else giftF (F := F) i c) := by split <;> infer_instance
  have h2 : BI.Storable (upEmb : UEmb _ 𝕄) (if ev i then giftF (F := F) i c else iprop(emp)) := by split <;> infer_instance
  match d with
  | 0 => unfold gift; infer_instance
  | 1 => unfold gift; infer_instance
  | 2 => unfold gift; infer_instance
omit [FloatOps F] in
instance barPay_storable (d : Fin 3) (c : Dev nD) : BI.Storable (upEmb : UEmb _ 𝕄) (barPay (F := F) d c) := by
  unfold barPay; infer_instance
instance Rd_storable (g : GSem nD τ sig) (r : ℕ) (d : Fin 3) : BI.Storable (upEmb : UEmb _ 𝕄) ((Rd m).payload g r d) := by
  show BI.Storable _ (payAt m g.2 d g.1.1)
  unfold payAt
  cases g.2 with
  | reg s => dsimp only; infer_instance
  | dma s => dsimp only; cases dec s <;> (dsimp only; infer_instance)

theorem duties_cl (c : Dev nD) (ρ : Role) (i : Fin 4) : (Rd (F := F) m).duties (cl c ρ i) 0 = {0} := by
  show dutiesAt (cl c ρ i) 0 = _
  unfold dutiesAt dutiesOf
  rw [if_pos ⟨rfl, rfl⟩]; simp only [dec_semOf]
theorem duties_bar (c : Dev nD) : (Rd (F := F) m).duties (barCell c) 0 = Finset.univ := by
  show dutiesAt (barCell c) 0 = _
  unfold dutiesAt dutiesOf
  rw [if_pos ⟨rfl, rfl⟩]; rfl
theorem duties_later (g : GSem nD τ sig) : ∀ r, 1 ≤ r → (Rd (F := F) m).duties g r = ∅ :=
  fun r hr => by show dutiesAt g r = _; unfold dutiesAt; exact if_neg fun h => by omega
theorem amount_cl (c : Dev nD) (ρ : Role) (i : Fin 4) (d : Fin 3) : (Rd (F := F) m).amount (cl c ρ i) 0 d = amt ρ := by
  show amountAt (.dma (semOf ρ i)) = _
  unfold amountAt; simp only [dec_semOf]
theorem amount_bar (c : Dev nD) (d : Fin 3) : (Rd (F := F) m).amount (barCell c) 0 d = 1 := rfl
theorem payload_cl (c : Dev nD) (ρ : Role) (i : Fin 4) (d : Fin 3) : (Rd (F := F) m).payload (cl c ρ i) 0 d = pay m ρ i c := by
  show payAt m (.dma (semOf ρ i)) d c = _
  unfold payAt; simp only [dec_semOf]
theorem payload_bar (c : Dev nD) (d : Fin 3) : (Rd (F := F) m).payload (barCell c) 0 d = barPay (F := F) d c := rfl

theorem expect_cl (c : Dev nD) (ρ : Role) (i : Fin 4) : (Rd (F := F) m).expect (cl c ρ i) 0 = amt ρ := by
  unfold Schedule.expect Schedule.amountOf; rw [duties_cl, Finset.sum_singleton, amount_cl]
theorem expect_bar (c : Dev nD) : (Rd (F := F) m).expect (barCell c) 0 = 3 := by
  unfold Schedule.expect Schedule.amountOf
  rw [duties_bar, Finset.sum_congr rfl fun d _ => amount_bar m c d]; rfl
theorem rest_cl (c : Dev nD) (ρ : Role) (i : Fin 4) :
    bigSep ((Rd (F := F) m).duties (cl c ρ i) 0 \ ∅) (fun d => (Rd (F := F) m).payload (cl c ρ i) 0 d) = pay m ρ i c := by
  rw [Finset.sdiff_empty, duties_cl, bigSep_singleton, payload_cl]

/-! ## What is owed -/

/-- The part of a per-chunk debt that is left from chunk `n` on. -/
def rem (f : Fin 4 → CellTallies nD τ sig Unit) (n : Nat) : CellTallies nD τ sig Unit := ∑ i : Fin 4, if n ≤ i.val then f i else 0

theorem rem_step (f : Fin 4 → CellTallies nD τ sig Unit) (i : Fin 4) : rem f i.val = rem f (i.val + 1) + f i := by
  unfold rem
  simp only [Fin.sum_univ_four]
  fin_cases i <;> simp [add_comm, add_left_comm, add_assoc]
theorem rem_ge (f : Fin 4 → CellTallies nD τ sig Unit) {n : Nat} (h : 4 ≤ n) : rem f n = 0 :=
  Finset.sum_eq_zero fun i _ => if_neg fun h' => by have := i.isLt; omega
theorem rem_pos {f : Fin 4 → CellTallies nD τ sig Unit} {n : Nat} {g : GSem nD τ sig} {u : Unit} (h : 0 < rem f n g u) :
    ∃ i : Fin 4, n ≤ i.val ∧ 0 < f i g u := by
  by_contra hn
  push Not at hn
  refine absurd h (Nat.not_lt.2 (le_of_eq ?_))
  unfold rem
  rw [Finset.sum_apply, Finsupp.finset_sum_apply]
  refine Finset.sum_eq_zero fun i _ => ?_
  split
  · next hi => exact Nat.le_zero.mp (hn i hi)
  · rfl

/-- One device's debts for chunk `i`: the arrival along `x`, the ones along `y` and `z`, the forwarded one. -/
def fx (c : Dev nD) (i : Fin 4) : CellTallies nD τ sig Unit := tallyAt (cl (px c) .xr i) () (amt .xr)
def fyz (c : Dev nD) (i : Fin 4) : CellTallies nD τ sig Unit := tallyAt (cl (pz c) .zr i) () (amt .zr) + tallyAt (cl (py c) .yr i) () (amt .yr)
def ff (c : Dev nD) (i : Fin 4) : CellTallies nD τ sig Unit := tallyAt (cl (pf i c) .fr i) () (amt .fr)

/-- What is left to pay when the copies along `x` are at chunk `a`, those along `y`, `z` at `b`, the forwarded ones at `d`. -/
def owed (c : Dev nD) (a b d : Nat) : CellTallies nD τ sig Unit := rem (fx c) a + rem (fyz c) b + rem (ff c) d

/-- What is owed at launch: that, and a unit on each partner's handshake cell. -/
def O₀ (c : Dev nD) : CellTallies nD τ sig Unit :=
  owed c 0 0 0 + tallyAt (barCell (pz c)) () 1 + tallyAt (barCell (py c)) () 1 + tallyAt (barCell (px c)) () 1

theorem owed_x (c : Dev nD) (i : Fin 4) (b d : Nat) : owed c i.val b d = owed c (i.val + 1) b d + tallyAt (cl (px c) .xr i) () (amt .xr) := by
  unfold owed; rw [rem_step, fx]; ac_rfl
theorem owed_yz (c : Dev nD) (a : Nat) (i : Fin 4) (d : Nat) :
    owed c a i.val d = owed c a (i.val + 1) d + tallyAt (cl (pz c) .zr i) () (amt .zr) + tallyAt (cl (py c) .yr i) () (amt .yr) := by
  unfold owed; rw [rem_step, fyz]; ac_rfl
theorem owed_f (c : Dev nD) (a b : Nat) (i : Fin 4) : owed c a b i.val = owed c a b (i.val + 1) + tallyAt (cl (pf i c) .fr i) () (amt .fr) := by
  unfold owed; rw [rem_step, ff]; ac_rfl

theorem tallyAt_pos {g g' : GSem nD τ sig} {u u' : Unit} {n : Nat} (h : 0 < (tallyAt g u n : CellTallies nD τ sig Unit) g' u') : g' = g := by
  rw [tallyAt_apply] at h
  by_contra hn
  rw [if_neg fun h' => hn h'.1] at h
  exact Nat.lt_irrefl 0 h

/-! ## The levels -/

def L (g : GSem nD τ sig) : Finset Unit := if g.1.2 = .tc then {()} else ∅

def lvR (ρ : Role) (i : Fin 4) : Nat := match ρ with | .xr => i.val + 2 | .yr => i.val + 3 | .zr => i.val + 3 | .fr => i.val + 4 | _ => 0

def lvS (s : SemLoc sig) : Nat := match s with
  | .reg _ => 1
  | .dma s => match dec s with | some p => lvR p.1 p.2 | none => 0

def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_cl (c : Dev nD) (ρ : Role) (i : Fin 4) (u : Unit) : lv (cl c ρ i) u = lvR ρ i := by
  show (match dec (semOf ρ i) with | some p => lvR p.1 p.2 | none => 0) = _
  simp only [dec_semOf]
theorem lv_bar (c : Dev nD) (u : Unit) : lv (barCell c) u = 1 := rfl

/-- What a debt reaches: TensorCore cells of level above `n`. -/
def Above (n : Nat) (O : CellTallies nD τ sig Unit) : Prop := ∀ (g : GSem nD τ sig) (u : Unit), 0 < O g u → g.1.2 = .tc ∧ n < lv g u

theorem above_zero (n : Nat) : Above n 0 := fun _ _ h => absurd h (Nat.lt_irrefl 0)
theorem above_add {n : Nat} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : Nat} {c : Dev nD} {sm : SemLoc sig} {k : Nat} (h : n < lvS sm) :
    Above n (tallyAt ((c : Thread nD τ), sm) () k : CellTallies nD τ sig Unit) := fun g u hg => by
  obtain rfl := tallyAt_pos hg; exact ⟨rfl, h⟩
theorem above_rem {n k : Nat} {f : Fin 4 → CellTallies nD τ sig Unit} (h : ∀ i : Fin 4, k ≤ i.val → Above n (f i)) : Above n (rem f k) := fun g u hg => by
  obtain ⟨i, hi, hp⟩ := rem_pos hg; exact h i hi g u hp

theorem lvS_cl (ρ : Role) (i : Fin 4) : lvS (.dma (semOf ρ i)) = lvR ρ i := lv_cl 0 ρ i ()

theorem above_owed (c : Dev nD) {n a b d : Nat} (ha : n < a + 2 ∨ 4 ≤ a) (hb : n < b + 3 ∨ 4 ≤ b) (hd : n < d + 4 ∨ 4 ≤ d) : Above n (owed c a b d) := by
  unfold owed
  refine above_add (above_add (above_rem fun i hi => ?_) (above_rem fun i hi => ?_)) (above_rem fun i hi => ?_)
  · refine above_tally ?_; rw [lvS_cl]; have := i.isLt; unfold lvR; dsimp only; omega
  · refine above_add (above_tally ?_) (above_tally ?_) <;> (rw [lvS_cl]; have := i.isLt; unfold lvR; dsimp only; omega)
  · refine above_tally ?_; rw [lvS_cl]; have := i.isLt; unfold lvR; dsimp only; omega

omit [FloatOps F] in
/-- A device may wait on a cell that lies below all it owes. -/
theorem mayWait (c : Dev nD) (sm : SemLoc sig) (O : CellTallies nD τ sig Unit) (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by obtain ⟨⟨d, k⟩, s⟩ := g; obtain rfl : k = .tc := (h _ u hg).1; rw [L_tc]; exact Finset.mem_singleton_self _)
    (fun p hp => by rw [Finset.mem_singleton.mp hp]; exact le_rfl)
    (fun g u hg => (h g u hg).2)

/-! ## The records -/

def barCells : Finset (GSem nD τ sig) := Finset.univ.image barCell
def roleCells : Finset (GSem nD τ sig) := (Finset.univ : Finset (Dev nD × Role × Fin 4)).image fun p => cl p.1 p.2.1 p.2.2

theorem mem_bar (c : Dev nD) : barCell c ∈ barCells ∪ roleCells := Finset.mem_union_left _ (Finset.mem_image_of_mem _ (Finset.mem_univ c))
theorem mem_cl (c : Dev nD) (ρ : Role) (i : Fin 4) : cl c ρ i ∈ barCells ∪ roleCells :=
  Finset.mem_union_right _ (Finset.mem_image.mpr ⟨(c, ρ, i), Finset.mem_univ _, rfl⟩)

/-- Every cell's record. -/
def recs (κ : GSem nD τ sig → ℕ) : sProp 𝕄 := bigSep (barCells ∪ roleCells) fun g => cellInv ER (Rd m) (κ g) g

instance recs_persistent (κ : GSem nD τ sig → ℕ) : BI.Persistent (recs m κ) := by unfold recs; infer_instance

theorem rec_at (κ : GSem nD τ sig → ℕ) {g : GSem nD τ sig} (h : g ∈ barCells ∪ roleCells) : recs m κ ⊢ cellInv ER (Rd m) (κ g) g :=
  bigSep_elim h

end Cert.KernelIdeal.Talk

end
-- ==== Proof.Slots.lean ====
/-
  The kernel's operations on slots, each as one step of a device's run: a load or a store of the rows of a scratch buffer that
  a squeezed slot names, a copy of one slot to a partner's or to the device's own, the wait for a copy, and the two halves of
  the handshake. A step is stated for memrefs, semaphores and devices under equations to the ones the protocol names.
-/
module

public import proofs.«01_k».proof.Proof.Proto

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel makes no calls. -/
abbrev 𝒱₀ : Variants := Variants.none

/-- The weakest precondition of device `c`'s run. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A run in two pieces, by what holds between them. -/
theorem wp_mid (c : Dev nD) {α β : Type} {p : Prog (TpuEff nD τ sig (Elt F) Λ₀ .tc) α} {k : α → Prog (TpuEff nD τ sig (Elt F) Λ₀ .tc) β}
    {P : sProp 𝕄} {Q : β → sProp 𝕄} (Mid : α → sProp 𝕄) (h₁ : P ⊢ WP c p Mid) (h₂ : ∀ a, Mid a ⊢ WP c (k a) Q) : P ⊢ WP c (p.bind k) Q :=
  (h₁.trans (wp_mono frame _ _ h₂)).trans (Idealize.SL.BI.BIBase.Entails.of_eq (wp_bind frame _ _ p k Q).symm)

/-- The end of a run. -/
theorem wp_done (c : Dev nD) {α : Type} (a : α) (Q : α → sProp 𝕄) : Q a ⊢ WP c (.ret a) Q := by
  rw [show WP c (.ret a) Q = _ from wp_ret frame (wpE (defs₀ (F := F)) 𝒱₀ (c : Thread nD τ) none) Set.univ a Q]
  iintro H
  imodintro
  iexact H

/-! ## Loads and stores -/

theorem unsq_sqz (v : S1x1024x512.Idx → Elt F .f32) : unsq (sqz v) = v := by
  unfold sqz unsq shapeCast
  funext j
  exact congrArg v ((Shape.reshapeEquiv_reshapeEquiv _ _ j).trans (Shape.reshapeEquiv_self _ j))

/-- A load of a rectangle of a memref that is held. -/
theorem load_owns (c : Dev nD) {cs : CoreSpace} {s : Shape} {e : EltTy} (M : Memref sig .tc cs s e) {r : LoadRect s} {hl : M.view.LoadsAt r}
    {q : PosShare TreeShare} {X : s.Idx → Elt F e} {α : Type} {Q : α → sProp 𝕄} {k : (r.shape.Idx → Elt F e) → Prog (TpuEff nD τ sig (Elt F) Λ₀ .tc) α} :
    (ownsTc c M q X : sProp 𝕄) ⊢ iprop((ownsTc c M q X -∗ WP c (k fun x => X (r.idx x)) Q) -∗ WP c (.op (.load M r hl) k) Q) := by
  unfold ownsTc owns
  iintro ⟨%f, %hf, H⟩ Hk
  subst hf
  iapply (wp_load 𝒱₀ (c : Thread nD τ) none Set.univ (m := M) (View.setOn_subset_set _ _)) $$ H
  iintro H
  iapply Hk
  iexists f
  isplitr; · ipureintro; rfl
  iexact H

/-- A load of the row of a scratch buffer that a slot names. -/
theorem load_slot (c : Dev nD) {M : Memref sig .tc .vmem S4x1024x512 .f32} {off : Fin 3 → Nat} {hi : ∀ a, off a + S1x1024x512.size a ≤ S4x1024x512.size a}
    {T : Memref sig .tc .vmem S1024x512 .f32} (hT : sqV M off hi = T)
    {hl : M.view.LoadsAt (Rect.unit (s := S4x1024x512) off S1x1024x512.size hi).toLoadRect}
    {q : PosShare TreeShare} {B : Blk F} {α : Type} {Q : α → sProp 𝕄} {k : (S1x1024x512.Idx → Elt F .f32) → Prog (TpuEff nD τ sig (Elt F) Λ₀ .tc) α} :
    (ownsTc c T q B : sProp 𝕄) ⊢ iprop((ownsTc c T q B -∗ WP c (k (unsq B)) Q)
      -∗ WP c (.op (.load M (Rect.unit (s := S4x1024x512) off S1x1024x512.size hi).toLoadRect hl) k) Q) := by
  subst hT
  unfold ownsTc owns
  iintro ⟨%f, %hf, H⟩ Hk
  have hb : (M.access (Rect.unit (s := S4x1024x512) off S1x1024x512.size hi)).read (Elt F) f = unsq B := by
    rw [← hf]
    exact (unsq_sqz _).symm
  iapply (wp_load_rect 𝒱₀ (c : Thread nD τ) none Set.univ (m := M) (S := (sqV M off hi).view.set) (r := Rect.unit (s := S4x1024x512) off S1x1024x512.size hi)
    (subset_of_eq (View.set_reshape _ _).symm)) $$ H
  iintro H
  rw [hb]
  iapply Hk
  iexists f
  isplitr; · ipureintro; exact hf
  iexact H

/-- A store of it. -/
theorem store_slot (c : Dev nD) {M : Memref sig .tc .vmem S4x1024x512 .f32} {off : Fin 3 → Nat} {hi : ∀ a, off a + S1x1024x512.size a ≤ S4x1024x512.size a}
    {T : Memref sig .tc .vmem S1024x512 .f32} (hT : sqV M off hi = T)
    {v : S1x1024x512.Idx → Elt F .f32}
    {hx : (M.access (Rect.unit (s := S4x1024x512) off S1x1024x512.size hi)).Stores Finset.univ}
    {hm : (Finset.univ : Finset S1x1024x512.Idx) = Finset.univ ∨ ∀ a, (Rect.unit (s := S4x1024x512) off S1x1024x512.size hi).stride a = 1}
    {B : Blk F} {α : Type} {Q : α → sProp 𝕄} {k : PUnit → Prog (TpuEff nD τ sig (Elt F) Λ₀ .tc) α} :
    (ownsTc c T fullShare B : sProp 𝕄) ⊢ iprop((ownsTc c T fullShare (sqz v) -∗ WP c (k ⟨⟩) Q)
      -∗ WP c (.op (.store M (Rect.unit (s := S4x1024x512) off S1x1024x512.size hi) v Finset.univ hx hm) k) Q) := by
  subst hT
  unfold ownsTc owns
  iintro ⟨%f, %hf, H⟩ Hk
  iapply (wp_store 𝒱₀ (c : Thread nD τ) none Set.univ (m := M) (S := (sqV M off hi).view.set) (r := Rect.unit (s := S4x1024x512) off S1x1024x512.size hi) (Mk := Finset.univ)
    (subset_of_eq (View.set_reshape _ _).symm)) $$ H
  iintro H
  iapply Hk
  iexists _
  isplitr
  rotate_left
  · iexact H
  ipureintro
  show shapeCast S1024x512 ((M.access (Rect.unit (s := S4x1024x512) off S1x1024x512.size hi)).read (Elt F) _) _ = sqz v
  rw [View.read_write_univ]
  rfl

/-! ## Copies -/

/-- A copy of a slot moves the same amount whichever slot of an array it goes to. -/
theorem credit_out (q i : Fin 4) : (outS q i).view.dmaCredit = NO := by
  show (outS q i).view.ref.dmaCredit _ _ = (outS 0 0).view.ref.dmaCredit _ _
  rfl
theorem credit_recv (i : Fin 4) : (recvS i).view.dmaCredit = NX := by
  show (recvS i).view.ref.dmaCredit _ _ = (recvS 0).view.ref.dmaCredit _ _
  rfl

variable (m : (ℓ : Loc nD τ sig) → Buf (Elt F) ℓ) (κ : GSem nD τ sig → ℕ)

/-- A copy of one slot to a partner's. -/
theorem send_slot (c c' : Dev nD) (ρs ρr : Role) (i : Fin 4) {sp sp' : Space} {S : Memref sig .tc sp S1024x512 .f32} {D : Memref sig .tc sp' S1024x512 .f32}
    {src : Memref sig .tc sp S1024x512 .f32} {n : Dev nD} {dst : Memref sig (Dev.tc n : Thread nD τ).2.kind sp' S1024x512 .f32}
    {sS sR : SemLoc sig} (hS : src = S) (hn : n = c') (hD : dst = D) (hsS : sS = .dma (semOf ρs i)) (hsR : sR = .dma (semOf ρr i))
    {hsc : dst.view.ref.isScScratch = false} {hsrc : src.view.WordExact} {hdst : dst.view.WordExact}
    {hsem : DmaTarget.Typed sp sR (.remote (Dev.tc n : Thread nD τ) dst sS hsc)}
    {q : PosShare TreeShare} {X : Blk F} (O : CellTallies nD τ sig Unit) (W : Waits sig Unit)
    (hN : D.view.dmaCredit = amt ρr) (hsr : amt ρs = amt ρr)
    (hp₁ : (ownsTc c S q X : sProp 𝕄) ⊢ pay m ρs i c) (hp₂ : (ownsTc c' D fullShare X : sProp 𝕄) ⊢ pay m ρr i c')
    {α : Type} {Q : α → sProp 𝕄} {k : PUnit → Prog (TpuEff nD τ sig (Elt F) Λ₀ .tc) α} :
    iprop(recs m κ ∗ ownsTc c S q X ∗ anyS (F := F) c' D ∗ owes (c : Thread nD τ) (O + tallyAt (cl c' ρr i) () (amt ρr)) W
        ∗ (dutyTok ER (cl c ρs i) 0 0 ∗ reached ER (cl c ρs i) 0) ∗ (dutyTok ER (cl c' ρr i) 0 0 ∗ reached ER (cl c' ρr i) 0))
      ⊢ iprop(((cred (tallyAt (cl c ρs i) () (amt ρs)) ∗ owes (c : Thread nD τ) O W) -∗ WP c (k ⟨⟩) Q)
          -∗ WP c (.op (.enqueueDma src (.remote (Dev.tc n : Thread nD τ) dst sS hsc) sR hsrc hdst hsem) k) Q) := by
  subst hn hS hD hsS hsR
  iintro ⟨#Hrec, Hsrc, ⟨%Y, Hdst⟩, HO, ⟨HtS, #HrS⟩, ⟨HtR, #HrR⟩⟩ Hk
  ihave #H1 := (rec_at m κ (mem_cl c ρs i)) $$ Hrec
  ihave #H2 := (rec_at m κ (mem_cl n ρr i)) $$ Hrec
  unfold ownsTc owns
  icases Hsrc with ⟨%fs, %hfs, Hsrc⟩
  icases Hdst with ⟨%fd, %hfd, Hdst⟩
  iapply (Rounds.wp_send_pointsTo 𝒱₀ ER (Rd m) (c : Thread nD τ) none (κ₁ := κ (cl c ρs i)) (κ₂ := κ (cl n ρr i))
    (r₁ := 0) (r₂ := 0) (d₁ := 0) (d₂ := 0) (fs := fs) (fd := fd) (q := q) (W := W)
    (by rw [duties_cl]; exact Finset.mem_singleton_self _) (by rw [duties_cl]; exact Finset.mem_singleton_self _)
    () () (amt ρr) (show dst.view.amount (.dma (semOf ρr i)) = amt ρr from hN) ((amount_cl m c ρs i 0).trans hsr) (amount_cl m n ρr i 0) O rfl
    (by
      rw [payload_cl]; refine Idealize.SL.BI.BIBase.Entails.trans ?_ hp₁
      unfold ownsTc owns
      iintro H; iexists fs; isplitr; · (ipureintro; exact hfs)
      iexact H)
    (by
      rw [payload_cl]; refine Idealize.SL.BI.BIBase.Entails.trans ?_ hp₂
      unfold ownsTc owns
      iintro H; iexists _; isplitr
      rotate_left
      · iexact H
      ipureintro
      rw [View.read_write_univ]; exact hfs)) $$ [Hsrc Hdst HO HtS HtR]
  · isplitr; · iexact H1
    isplitr; · iexact H2
    isplitl [Hsrc]; · iexact Hsrc
    isplitl [Hdst]; · iexact Hdst
    isplitl [HO]; · iexact HO
    isplitl [HtS]; · iexact HtS
    isplitr; · iexact HrS
    isplitl [HtR]; · iexact HtR
    iexact HrR
  rw [hsr]
  iexact Hk

/-- A copy of a kept chunk into the device's own result. -/
theorem copy_slot (c : Dev nD) (i : Fin 4) {src : Memref sig .tc .vmem S1024x512 .f32} {dst : Memref sig .tc .hbm S1024x512 .f32} {sR : SemLoc sig}
    (hS : src = keepS i) (hD : dst = outS (qd c) i) (hsR : sR = .dma (semOf .lc i))
    {hsrc : src.view.WordExact} {hdst : dst.view.WordExact} {hsem : DmaTarget.Typed (nD := nD) .vmem sR (.here (p := .tc) dst)}
    {α : Type} {Q : α → sProp 𝕄} {k : PUnit → Prog (TpuEff nD τ sig (Elt F) Λ₀ .tc) α} :
    iprop(recs m κ ∗ ownsTc c (keepS i) ql (keepV m c i) ∗ anyS (F := F) c (outS (qd c) i) ∗ (dutyTok ER (cl c .lc i) 0 0 ∗ reached ER (cl c .lc i) 0))
      ⊢ iprop((cred (tallyAt (cl c .lc i) () (amt .lc)) -∗ WP c (k ⟨⟩) Q)
          -∗ WP c (.op (.enqueueDma src (.here (p := .tc) dst) sR hsrc hdst hsem) k) Q) := by
  subst hS hD hsR
  iintro ⟨#Hrec, Hsrc, ⟨%Y, Hdst⟩, ⟨Ht, #Hr⟩⟩ Hk
  ihave #H1 := (rec_at m κ (mem_cl c .lc i)) $$ Hrec
  unfold ownsTc owns
  icases Hsrc with ⟨%fs, %hfs, Hsrc⟩
  icases Hdst with ⟨%fd, %hfd, Hdst⟩
  iapply (Rounds.wp_copy_pointsTo 𝒱₀ ER (Rd m) (c : Thread nD τ) none (κ := κ (cl c .lc i)) (r := 0) (d := 0) (fs := fs) (fd := fd) (q := ql)
    (by rw [duties_cl]; exact Finset.mem_singleton_self _) () (amt .lc) (show (outS (qd c) i).view.amount (.dma (semOf .lc i)) = amt .lc from credit_out _ _) (amount_cl m c .lc i 0)
    (by
      rw [payload_cl]
      refine Idealize.SL.BI.BIBase.Entails.trans ?_ (Q := iprop(ownsTc c (outS (qd c) i) fullShare (keepV m c i) ∗ ownsTc c (keepS i) ql (keepV m c i))) .rfl
      unfold ownsTc owns
      iintro ⟨H, H'⟩
      isplitl [H]
      · iexists _; isplitr
        rotate_left
        · iexact H
        ipureintro
        rw [View.read_write_univ]; exact hfs
      · iexists fs; isplitr; · (ipureintro; exact hfs)
        iexact H')) $$ [Hsrc Hdst Ht]
  · isplitr; · iexact H1
    isplitl [Hsrc]; · iexact Hsrc
    isplitl [Hdst]; · iexact Hdst
    isplitl [Ht]; · iexact Ht
    iexact Hr
  iexact Hk

/-- The wait for a copy: the cell's round hands over its payload, and the cell is closed at zero. -/
theorem wait_slot (c : Dev nD) (ρ : Role) (i : Fin 4) {sm : DmaSem sig} (hs : sm = semOf ρ i) {sp sp' : Space}
    {src : Memref sig .tc sp S1024x512 .f32} {dst : Memref sig .tc sp' S1024x512 .f32} {hsrc : src.view.WordExact} {hdst : dst.view.WordExact}
    (hN : dst.view.dmaCredit = amt ρ) (O : CellTallies nD τ sig Unit) (hO : Above (lvR ρ i) O)
    {α : Type} {Q : α → sProp 𝕄} {k : PUnit → Prog (TpuEff nD τ sig (Elt F) Λ₀ .tc) α} :
    iprop(recs m κ ∗ levAts L lv ∗ (∃ W, owes (c : Thread nD τ) O W) ∗ atPos ER (cl c ρ i) 0 ∅ 0 ∗ cred (tallyAt (cl c ρ i) () (amt ρ)))
      ⊢ iprop((((∃ W, owes (c : Thread nD τ) O W) ∗ semVal (cl c ρ i) 0 ∗ pay m ρ i c) -∗ WP c (k ⟨⟩) Q)
          -∗ WP c (.op (.waitDma2 sm src dst hsrc hdst) k) Q) := by
  subst hs
  iintro ⟨#Hrec, #Hlev, ⟨%W, HO⟩, Hat, Hc⟩ Hk
  ihave #H1 := (rec_at m κ (mem_cl c ρ i)) $$ Hrec
  iapply (Rounds.wp_wait_rest_token 𝒱₀ ER (Rd m) (c : Thread nD τ) none (κ := κ (cl c ρ i)) (sm := .dma (semOf ρ i)) (k' := amt ρ)
    (by rw [← hN]; exact wpE_waitDma2_eq 𝒱₀ (c : Thread nD τ) none Set.univ) (Set.mem_univ _) () (O := O) (W := W) (R := 0) (m := 0) (T := ∅)
    (by rw [Nat.zero_add, expect_cl])) $$ [Hc HO Hat]
  · isplitr; · iexact H1
    isplitl [Hc]; · iexact Hc
    isplitl [HO]; · iexact HO
    isplitr; · iapply (mayWait c (.dma (semOf ρ i)) O (by rw [lvS_cl]; exact hO)); iexact Hlev
    iexact Hat
  iintro ⟨HO, Hat, -, Hpay⟩
  imod (Rounds.cell_close ER (Rd m) (Set.mem_univ (κ (cl c ρ i))) (fun h => h) (R := 0 + 1) (duties_later m (cl c ρ i))) $$ [Hat] with Hz
  · isplitr; · iexact H1
    iexact Hat
  iapply Hk
  isplitl [HO]; · iexists _; iexact HO
  isplitl [Hz]; · iexact Hz
  ihave Hp := (Entails.of_eq (rest_cl m c ρ i)) $$ Hpay
  iexact Hp

/-! ## The handshake -/

/-- A unit on a partner's handshake cell. -/
theorem signal_bar (c c' : Dev nD) (d : Fin 3) {n : Dev nD} (hn : n = c') {sm : Sem sig} (hs : sm = barrier0) (O : CellTallies nD τ sig Unit) (W : Waits sig Unit)
    {α : Type} {Q : α → sProp 𝕄} {k : PUnit → Prog (TpuEff nD τ sig (Elt F) Λ₀ .tc) α} :
    iprop(recs m κ ∗ owes (c : Thread nD τ) (O + tallyAt (barCell c') () 1) W ∗ dutyTok ER (barCell c') 0 d ∗ reached ER (barCell c') 0 ∗ barPay (F := F) d c')
      ⊢ iprop((owes (c : Thread nD τ) O W -∗ WP c (k ⟨⟩) Q) -∗ WP c (.op (.semSignal (Dev.tc n : Thread nD τ) sm 1) k) Q) := by
  subst hn hs
  iintro ⟨#Hrec, HO, Ht, #Hr, Hp⟩
  ihave #H1 := (rec_at m κ (mem_bar n)) $$ Hrec
  iapply (Rounds.wp_signal 𝒱₀ ER (Rd m) (c : Thread nD τ) none (dst := (n : Thread nD τ)) (κ := κ (barCell n))
    (by rw [duties_bar]; exact Finset.mem_univ d) (amount_bar m n d) () O rfl)
  isplitr; · iexact H1
  isplitl [HO]; · iexact HO
  isplitl [Ht]; · iexact Ht
  isplitl [Hp]
  · ihave Hq := (Entails.of_eq (payload_bar m n d).symm) $$ Hp
    iexact Hq
  iexact Hr

/-- The wait for the three partners' units. -/
theorem wait_bar (c : Dev nD) {sm : Sem sig} (hs : sm = barrier0) (O : CellTallies nD τ sig Unit) (hO : Above 1 O) (W : Waits sig Unit)
    {α : Type} {Q : α → sProp 𝕄} {k : PUnit → Prog (TpuEff nD τ sig (Elt F) Λ₀ .tc) α} :
    iprop(recs m κ ∗ levAts L lv ∗ owes (c : Thread nD τ) O W ∗ atPos ER (barCell c) 0 ∅ 0 ∗ cred (tallyAt (barCell c) () 3))
      ⊢ iprop((((∃ W, owes (c : Thread nD τ) O W) ∗ semVal (barCell c) 0 ∗ barPay (F := F) 0 c ∗ barPay (F := F) 1 c ∗ barPay (F := F) 2 c) -∗ WP c (k ⟨⟩) Q)
          -∗ WP c (.op (.semWait sm 3) k) Q) := by
  subst hs
  iintro ⟨#Hrec, #Hlev, HO, Hat, Hc⟩ Hk
  ihave #H1 := (rec_at m κ (mem_bar c)) $$ Hrec
  iapply (Rounds.wp_wait_rest_token 𝒱₀ ER (Rd m) (c : Thread nD τ) none (κ := κ (barCell c))
    (wpE_semWait_eq 𝒱₀ (c : Thread nD τ) none Set.univ) (Set.mem_univ _) () (O := O) (W := W) (R := 0) (m := 0) (T := ∅)
    (by rw [Nat.zero_add, expect_bar])) $$ [Hc HO Hat]
  · isplitr; · iexact H1
    isplitl [Hc]; · iexact Hc
    isplitl [HO]; · iexact HO
    isplitr; · iapply (mayWait c (.reg barrier0) O hO); iexact Hlev
    iexact Hat
  iintro ⟨HO, Hat, -, Hpay⟩
  imod (Rounds.cell_close ER (Rd m) (Set.mem_univ (κ (barCell c))) (fun h => h) (R := 0 + 1) (duties_later m (barCell c))) $$ [Hat] with Hz
  · isplitr; · iexact H1
    iexact Hat
  iapply Hk
  isplitl [HO]; · iexists _; iexact HO
  isplitl [Hz]; · iexact Hz
  have h : bigSep ((Rd (F := F) m).duties (barCell c) 0 \ ∅) (fun d => (Rd (F := F) m).payload (barCell c) 0 d)
      ⊢ iprop(barPay (F := F) 0 c ∗ barPay (F := F) 1 c ∗ barPay (F := F) 2 c) := by
    rw [Finset.sdiff_empty, duties_bar, show (Finset.univ : Finset (Fin 3)) = {0, 1, 2} from by decide,
      bigSep_insert (by decide), bigSep_insert (by decide), bigSep_singleton]
    exact .rfl
  ihave Hp := h $$ Hpay
  iexact Hp

end Cert.KernelIdeal.Talk

end
-- ==== Proof.Stage.lean ====
/-
  The invariant. A chunk goes through stages on each device: summing (after how many points), sent to the `x` partner, received
  and sent on to the `y` and `z` partners, forwarded, arrived from across the square, and done. A stage says which slots the
  device holds and with what, which cells it has still to wait on, and what it still has to pay into. Before point `t` each
  chunk's stage is a function of `t`.
-/
module

public import proofs.«01_k».proof.Proof.Slots

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces -/

/-- Device `c` is to wait on its cell: its position there and the credit. -/
def await (c : Dev nD) (ρ : Role) (i : Fin 4) : sProp 𝕄 := iprop(atPos ER (cl c ρ i) 0 ∅ 0 ∗ cred (tallyAt (cl c ρ i) () (amt ρ)))
/-- Its own cell that a copy it starts will credit: its position, the token, and that the cell is open. -/
def kit (c : Dev nD) (ρ : Role) (i : Fin 4) : sProp 𝕄 := iprop(atPos ER (cl c ρ i) 0 ∅ 0 ∗ dutyTok ER (cl c ρ i) 0 0 ∗ reached ER (cl c ρ i) 0)
/-- The cell of a partner that a copy it starts will credit. -/
def goal (c : Dev nD) (ρ : Role) (i : Fin 4) : sProp 𝕄 := iprop(dutyTok ER (cl c ρ i) 0 0 ∗ reached ER (cl c ρ i) 0)
/-- A cell at rest. -/
def idle (c : Dev nD) (ρ : Role) (i : Fin 4) : sProp 𝕄 := semVal (cl c ρ i) 0

variable (m : (ℓ : Loc nD τ sig) → Buf (Elt F) ℓ)

/-- A cell at rest with what it handed over. -/
def got (c : Dev nD) (ρ : Role) (i : Fin 4) : sProp 𝕄 := iprop(idle (F := F) c ρ i ∗ pay m ρ i c)

/-- The kept and the sent slot after `k` points. -/
def keepAt (c : Dev nD) (i : Fin 4) : Nat → sProp 𝕄
  | 0 => anyS (F := F) c (keepS i)
  | k + 1 => ownsTc c (keepS i) fullShare (kAcc m c i k)
def sendAt (c : Dev nD) (i : Fin 4) : Nat → sProp 𝕄
  | 0 => anyS (F := F) c (sendS i)
  | k + 1 => ownsTc c (sendS i) fullShare (sAcc m c i k)

/-- What device `c` holds for the copy of chunk `i` to its `x` partner, -/
def toX (c : Dev nD) (i : Fin 4) : sProp 𝕄 := iprop(kit (F := F) c .xs i ∗ goal (F := F) (px c) .xr i ∗ anyS (F := F) (px c) (recvS i))
/-- for those to its `y` and `z` partners and into its own result, -/
def toYZ (c : Dev nD) (i : Fin 4) : sProp 𝕄 :=
  iprop((kit (F := F) c .ys i ∗ goal (F := F) (py c) .yr i ∗ anyS (F := F) (py c) (outS (qd c) i))
    ∗ (kit (F := F) c .zs i ∗ goal (F := F) (pz c) .zr i ∗ anyS (F := F) (pz c) (outS (qd c) i))
    ∗ (kit (F := F) c .lc i ∗ anyS (F := F) c (outS (qd c) i)))
/-- and for the forwarded one. -/
def toF (c : Dev nD) (i : Fin 4) : sProp 𝕄 :=
  iprop(kit (F := F) c .fs i ∗ goal (F := F) (pf i c) .fr i ∗ anyS (F := F) (pf i c) (outS (qd (fo i c)) i))

/-! ## The stages -/

inductive Stage | acc (k : Nat) | s1 | s2 | s3 | s4 | s5
  deriving DecidableEq

/-- What device `c` holds of chunk `i` at a stage. -/
def chunk (c : Dev nD) (i : Fin 4) : Stage → sProp 𝕄
  | .acc k => iprop(keepAt m c i k ∗ sendAt m c i k ∗ toX (F := F) c i ∗ await (F := F) c .xr i ∗ toYZ (F := F) c i
      ∗ await (F := F) c .yr i ∗ await (F := F) c .zr i ∗ toF (F := F) c i ∗ await (F := F) c .fr i)
  | .s1 => iprop(keepAt m c i 4 ∗ await (F := F) c .xs i ∗ await (F := F) c .xr i ∗ toYZ (F := F) c i
      ∗ await (F := F) c .yr i ∗ await (F := F) c .zr i ∗ toF (F := F) c i ∗ await (F := F) c .fr i)
  | .s2 => iprop(await (F := F) c .xs i ∗ got m c .xr i ∗ (await (F := F) c .ys i ∗ await (F := F) c .zs i ∗ await (F := F) c .lc i)
      ∗ await (F := F) c .yr i ∗ await (F := F) c .zr i ∗ toF (F := F) c i ∗ await (F := F) c .fr i)
  | .s3 => iprop(await (F := F) c .xs i ∗ got m c .xr i ∗ (await (F := F) c .ys i ∗ await (F := F) c .zs i ∗ await (F := F) c .lc i)
      ∗ (idle (F := F) c .yr i ∗ idle (F := F) c .zr i ∗ ownsTc c (outS (qd (pf i c)) i) fullShare (keepV m (pf i c) i))
      ∗ await (F := F) c .fs i ∗ await (F := F) c .fr i)
  | .s4 => iprop(await (F := F) c .xs i ∗ got m c .xr i ∗ (await (F := F) c .ys i ∗ await (F := F) c .zs i ∗ await (F := F) c .lc i)
      ∗ (idle (F := F) c .yr i ∗ idle (F := F) c .zr i ∗ ownsTc c (outS (qd (pf i c)) i) fullShare (keepV m (pf i c) i))
      ∗ await (F := F) c .fs i ∗ got m c .fr i)
  | .s5 => iprop(got m c .xs i ∗ got m c .xr i ∗ (got m c .ys i ∗ got m c .zs i ∗ got m c .lc i)
      ∗ (idle (F := F) c .yr i ∗ idle (F := F) c .zr i ∗ ownsTc c (outS (qd (pf i c)) i) fullShare (keepV m (pf i c) i))
      ∗ got m c .fs i ∗ got m c .fr i)

/-- The four chunks. -/
def chunks (c : Dev nD) (σ : Fin 4 → Stage) : sProp 𝕄 := bigSep Finset.univ fun i => chunk m c i (σ i)

omit [FloatOps F] in
theorem sep_at (i : Fin 4) (Φ : Fin 4 → sProp 𝕄) : bigSep Finset.univ Φ = iprop(Φ i ∗ bigSep (Finset.univ.erase i) Φ) :=
  bigSep_erase (Finset.mem_univ i)

/-- One chunk taken out, to be put back at any stage. -/
theorem chunks_take (c : Dev nD) (σ : Fin 4 → Stage) (i : Fin 4) {st : Stage} (h : σ i = st) :
    chunks m c σ ⊢ iprop(chunk m c i st ∗ (∀ st', chunk m c i st' -∗ chunks m c (Function.update σ i st'))) := by
  unfold chunks
  subst h
  rw [sep_at i]
  iintro ⟨H, HR⟩
  isplitl [H]; · iexact H
  iintro %st' H
  rw [sep_at i fun j => chunk m c j (Function.update σ i st' j)]
  isplitl [H]
  · rw [Function.update_self]; iexact H
  have e : bigSep (Finset.univ.erase i) (fun j => chunk m c j (σ j)) = bigSep (Finset.univ.erase i) (fun j => chunk m c j (Function.update σ i st' j)) :=
    bigSep_congr fun j hj => by rw [Function.update_of_ne (Finset.ne_of_mem_erase hj)]
  rw [← e]
  iexact HR

/-! ## Where each chunk stands -/

/-- Chunk `n`. -/
def ci (n : Nat) : Fin 4 := ⟨n % 4, Nat.mod_lt _ (by decide)⟩

theorem ci_val {n : Nat} (h : n < 4) : (ci n).val = n := Nat.mod_eq_of_lt h

/-- Before point `t`. -/
def stageAt (t : Nat) (i : Fin 4) : Stage :=
  if 28 ≤ t then .s5 else if t / 4 < i.val then .acc 0 else if t / 4 = i.val then .acc (t % 4)
  else if t / 4 = i.val + 1 then .s1 else if t / 4 = i.val + 2 then .s2 else if t / 4 = i.val + 3 then .s3 else .s4

/-- Within point `(b, k)`: after the sum, -/
def mid1 (b k : Nat) : Fin 4 → Stage :=
  if b < 4 then Function.update (stageAt (4 * b + k)) (ci b) (if k = 3 then .s1 else .acc (k + 1)) else stageAt (4 * b + k)
/-- after the copies along `y` and `z`, -/
def mid2 (b : Nat) : Fin 4 → Stage := if 1 ≤ b ∧ b ≤ 4 then Function.update (mid1 b 3) (ci (b - 1)) .s2 else mid1 b 3
/-- after the forwarding, -/
def mid3 (b : Nat) : Fin 4 → Stage := if 2 ≤ b ∧ b ≤ 5 then Function.update (mid2 b) (ci (b - 2)) .s3 else mid2 b
/-- after the wait for the forwarded chunk, -/
def mid4 (b : Nat) : Fin 4 → Stage := if 3 ≤ b then Function.update (mid3 b) (ci (b - 3)) .s4 else mid3 b
/-- and after the last waits. -/
def mid5 (b : Nat) : Fin 4 → Stage := if b = 6 then fun _ => .s5 else mid4 b

theorem at_acc' : ∀ (b : Fin 7) (k : Fin 4), b.val < 4 → stageAt (4 * b.val + k.val) (ci b.val) = .acc k.val := by decide +kernel
theorem at_s1' : ∀ b : Fin 7, 1 ≤ b.val ∧ b.val ≤ 4 → mid1 b.val 3 (ci (b.val - 1)) = .s1 := by decide +kernel
theorem at_s2' : ∀ b : Fin 7, 2 ≤ b.val ∧ b.val ≤ 5 → mid2 b.val (ci (b.val - 2)) = .s2 := by decide +kernel
theorem at_s3' : ∀ b : Fin 7, 3 ≤ b.val → mid3 b.val (ci (b.val - 3)) = .s3 := by decide +kernel
theorem at_s4 : ∀ i : Fin 4, mid4 6 i = .s4 := by decide +kernel
theorem at_next' : ∀ (b : Fin 7) (k : Fin 4), k.val ≠ 3 → ∀ i, mid1 b.val k.val i = stageAt (4 * b.val + k.val + 1) i := by decide +kernel
theorem at_next3' : ∀ (b : Fin 7) (i : Fin 4), mid5 b.val i = stageAt (4 * b.val + 3 + 1) i := by decide +kernel

/-! ## What is owed at each step -/

/-- Device `c` owes the rest from chunk `a` along `x`, `b` along `y` and `z`, `d` forwarded. -/
def debt (c : Dev nD) (a b d : Nat) : sProp 𝕄 := iprop(∃ W, owes (c : Thread nD τ) (owed c a b d) W)

omit [FloatOps F] in
theorem debt_eq (c : Dev nD) {a b d a' b' d' : Nat} (ha : a = a' ∨ 4 ≤ a ∧ 4 ≤ a') (hb : b = b' ∨ 4 ≤ b ∧ 4 ≤ b') (hd : d = d' ∨ 4 ≤ d ∧ 4 ≤ d') :
    (debt (F := F) c a b d) = debt c a' b' d' := by
  have e : ∀ (f : Fin 4 → CellTallies nD τ sig Unit) (x y : Nat), (x = y ∨ 4 ≤ x ∧ 4 ≤ y) → rem f x = rem f y := by
    intro f x y h
    rcases h with rfl | ⟨h, h'⟩
    · rfl
    · rw [rem_ge f h, rem_ge f h']
  unfold debt owed
  rw [e _ _ _ ha, e _ _ _ hb, e _ _ _ hd]

end Cert.KernelIdeal.Talk

end
-- ==== Proof.Sums.lean ====
/-
  The sums. From the staged blocks the body loads, head by head, a half of the rows of heads and the rows of weights they meet;
  the first two pieces of the body compute the sent summand, the rest the kept one.
-/
module

public import proofs.«01_k».proof.Proof.Stage

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A load of half `h` of the rows of head `n`. -/
theorem load_head (c : Dev nD) {A : Memref sig .tc .vmem S1x2048x8x128 .f32} {off : Fin 4 → Nat} (h : Fin 2) (n : Fin 8)
    (e : off = ![0, 1024 * h.val, n.val, 0]) {hi : ∀ a, off a + S1x1024x1x128.size a ≤ S1x2048x8x128.size a}
    {hl : A.view.LoadsAt (Rect.unit (s := S1x2048x8x128) off S1x1024x1x128.size hi).toLoadRect}
    {q : PosShare TreeShare} {X : S1x2048x8x128.Idx → Elt F .f32} {α : Type} {Q : α → sProp 𝕄}
    {k : (S1x1024x1x128.Idx → Elt F .f32) → Prog (TpuEff nD τ sig (Elt F) Λ₀ .tc) α} :
    (ownsTc c A q X : sProp 𝕄) ⊢ iprop((ownsTc c A q X -∗ WP c (k (ldO h n X)) Q)
      -∗ WP c (.op (.load A (Rect.unit (s := S1x2048x8x128) off S1x1024x1x128.size hi).toLoadRect hl) k) Q) := by
  subst e; exact load_owns (F := F) c A (X := X) (k := k) (Q := Q) (hl := hl)

/-- A load of the rows of weights of head `n`. -/
theorem load_weights (c : Dev nD) {A : Memref sig .tc .vmem S1024x512 .f32} {off : Fin 2 → Nat} (n : Fin 8)
    (e : off = ![128 * n.val, 0]) {hi : ∀ a, off a + S128x512.size a ≤ S1024x512.size a}
    {hl : A.view.LoadsAt (Rect.unit (s := S1024x512) off S128x512.size hi).toLoadRect}
    {q : PosShare TreeShare} {W : S1024x512.Idx → Elt F .f32} {α : Type} {Q : α → sProp 𝕄}
    {k : (S128x512.Idx → Elt F .f32) → Prog (TpuEff nD τ sig (Elt F) Λ₀ .tc) α} :
    (ownsTc c A q W : sProp 𝕄) ⊢ iprop((ownsTc c A q W -∗ WP c (k (ldW n W)) Q)
      -∗ WP c (.op (.load A (Rect.unit (s := S1024x512) off S128x512.size hi).toLoadRect hl) k) Q) := by
  subst e; exact load_owns (F := F) c A (X := W) (k := k) (Q := Q) (hl := hl)

/-! ## Where the loads are -/

theorem sentOff0 (c : Dev nD) : k0_off1 c = ![0, 1024 * (sh c).val, (0 : Fin 8).val, 0] := by revert c; decide +kernel
theorem sentOff1 (c : Dev nD) : k0_off2 c = ![0, 1024 * (sh c).val, (1 : Fin 8).val, 0] := by revert c; decide +kernel
theorem sentOff2 (c : Dev nD) : k0_off3 c = ![0, 1024 * (sh c).val, (2 : Fin 8).val, 0] := by revert c; decide +kernel
theorem sentOff3 (c : Dev nD) : k0_off4 c = ![0, 1024 * (sh c).val, (3 : Fin 8).val, 0] := by revert c; decide +kernel
theorem sentOff4 (c : Dev nD) : k0_off5 c = ![0, 1024 * (sh c).val, (4 : Fin 8).val, 0] := by revert c; decide +kernel
theorem sentOff5 (c : Dev nD) : k0_off6 c = ![0, 1024 * (sh c).val, (5 : Fin 8).val, 0] := by revert c; decide +kernel
theorem sentOff6 (c : Dev nD) : k0_off7 c = ![0, 1024 * (sh c).val, (6 : Fin 8).val, 0] := by revert c; decide +kernel
theorem sentOff7 (c : Dev nD) : k0_off8 c = ![0, 1024 * (sh c).val, (7 : Fin 8).val, 0] := by revert c; decide +kernel
theorem keptOff0 (c : Dev nD) : k0_off9 c = ![0, 1024 * (kh c).val, (0 : Fin 8).val, 0] := by revert c; decide +kernel
theorem keptOff1 (c : Dev nD) : k0_off10 c = ![0, 1024 * (kh c).val, (1 : Fin 8).val, 0] := by revert c; decide +kernel
theorem keptOff2 (c : Dev nD) : k0_off11 c = ![0, 1024 * (kh c).val, (2 : Fin 8).val, 0] := by revert c; decide +kernel
theorem keptOff3 (c : Dev nD) : k0_off12 c = ![0, 1024 * (kh c).val, (3 : Fin 8).val, 0] := by revert c; decide +kernel
theorem keptOff4 (c : Dev nD) : k0_off13 c = ![0, 1024 * (kh c).val, (4 : Fin 8).val, 0] := by revert c; decide +kernel
theorem keptOff5 (c : Dev nD) : k0_off14 c = ![0, 1024 * (kh c).val, (5 : Fin 8).val, 0] := by revert c; decide +kernel
theorem keptOff6 (c : Dev nD) : k0_off15 c = ![0, 1024 * (kh c).val, (6 : Fin 8).val, 0] := by revert c; decide +kernel
theorem keptOff7 (c : Dev nD) : k0_off16 c = ![0, 1024 * (kh c).val, (7 : Fin 8).val, 0] := by revert c; decide +kernel

/-! ## The three pieces -/

/-- The sent summand's first four heads; the fifth head's rows loaded. -/
theorem part1_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (v11 : BitVec 32) (h : k0_cond2 p = 1#1) {qX qW : PosShare TreeShare} {X : S1x2048x8x128.Idx → Elt F .f32} {W : S1024x512.Idx → Elt F .f32} :
    (iprop(ownsTc c A3 qX X ∗ ownsTc c A4 qW W) : sProp 𝕄)
      ⊢ WP c (k0_part1 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c v11 h)
        fun r => iprop(⌜r = ⟨k0_pay6 (ldO (sh c) 0 X) (ldW 0 W) (ldO (sh c) 1 X) (ldW 1 W) (ldO (sh c) 2 X) (ldW 2 W) (ldO (sh c) 3 X) (ldW 3 W),
          k0_pay7 (ldO (sh c) 4 X), ldW 4 W⟩⌝ ∗ ownsTc c A3 qX X ∗ ownsTc c A4 qW W) := by
  rw [k0_part1_eq_skeleton]
  unfold k0_part1_skel
  simp only [Prog.lift, Prog.bind_op, Prog.bind_ret, Prog.pure_eq_ret]
  iintro ⟨HX, HW⟩
  iapply (load_head c (sh c) 0 (sentOff0 c)) $$ HX; iintro HX
  iapply (load_weights c 0 rfl) $$ HW; iintro HW
  iapply (load_head c (sh c) 1 (sentOff1 c)) $$ HX; iintro HX
  iapply (load_weights c 1 rfl) $$ HW; iintro HW
  iapply (load_head c (sh c) 2 (sentOff2 c)) $$ HX; iintro HX
  iapply (load_weights c 2 rfl) $$ HW; iintro HW
  iapply (load_head c (sh c) 3 (sentOff3 c)) $$ HX; iintro HX
  iapply (load_weights c 3 rfl) $$ HW; iintro HW
  iapply (load_head c (sh c) 4 (sentOff4 c)) $$ HX; iintro HX
  iapply (load_weights c 4 rfl) $$ HW; iintro HW
  iapply wp_done
  isplitr; · (ipureintro; rfl)
  isplitl [HX]; · iexact HX
  iexact HW

/-- The rest of the sent summand, and the kept one's first head. -/
theorem part2_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (v9 v11 : BitVec 32) (h : k0_cond2 p = 1#1) (v64 : FVec F S1024x512 .f32) (v67 : FVec F S1024x128 .f32) (v68 : Vec F S128x512 .f32)
    {qX qW : PosShare TreeShare} {X : S1x2048x8x128.Idx → Elt F .f32} {W : S1024x512.Idx → Elt F .f32} :
    (iprop(ownsTc c A3 qX X ∗ ownsTc c A4 qW W) : sProp 𝕄)
      ⊢ WP c (k0_part2 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c v9 v11 h v64 v67 v68)
        fun r => iprop(⌜r = ⟨k0_pay8 v64 v67 v68 (ldO (sh c) 5 X) (ldW 5 W) (ldO (sh c) 6 X) (ldW 6 W) (ldO (sh c) 7 X) (ldW 7 W),
          k0_pay9 (ldO (kh c) 0 X) (ldW 0 W), ldO (kh c) 1 X⟩⌝ ∗ ownsTc c A3 qX X ∗ ownsTc c A4 qW W) := by
  rw [k0_part2_eq_skeleton]
  unfold k0_part2_skel
  simp only [Prog.lift, Prog.bind_op, Prog.bind_ret, Prog.pure_eq_ret]
  iintro ⟨HX, HW⟩
  iapply (load_head c (sh c) 5 (sentOff5 c)) $$ HX; iintro HX
  iapply (load_weights c 5 rfl) $$ HW; iintro HW
  iapply (load_head c (sh c) 6 (sentOff6 c)) $$ HX; iintro HX
  iapply (load_weights c 6 rfl) $$ HW; iintro HW
  iapply (load_head c (sh c) 7 (sentOff7 c)) $$ HX; iintro HX
  iapply (load_weights c 7 rfl) $$ HW; iintro HW
  iapply (load_head c (kh c) 0 (keptOff0 c)) $$ HX; iintro HX
  iapply (load_weights c 0 rfl) $$ HW; iintro HW
  iapply (load_head c (kh c) 1 (keptOff1 c)) $$ HX; iintro HX
  iapply wp_done
  isplitr; · (ipureintro; rfl)
  isplitl [HX]; · iexact HX
  iexact HW

/-- The kept summand's first six heads. -/
theorem part3_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (v9 : BitVec 32) (h : k0_cond2 p = 1#1) (v98 : FVec F S1024x512 .f32) (v100 : Vec F S1x1024x1x128 .f32)
    {qX qW : PosShare TreeShare} {X : S1x2048x8x128.Idx → Elt F .f32} {W : S1024x512.Idx → Elt F .f32} :
    (iprop(ownsTc c A3 qX X ∗ ownsTc c A4 qW W) : sProp 𝕄)
      ⊢ WP c (k0_part3 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c v9 h v98 v100)
        fun r => iprop(⌜r = k0_pay10 v98 v100 (ldW 1 W) (ldO (kh c) 2 X) (ldW 2 W) (ldO (kh c) 3 X) (ldW 3 W) (ldO (kh c) 4 X) (ldW 4 W)
          (ldO (kh c) 5 X) (ldW 5 W)⌝ ∗ ownsTc c A3 qX X ∗ ownsTc c A4 qW W) := by
  rw [k0_part3_eq_skeleton]
  unfold k0_part3_skel
  simp only [Prog.lift, Prog.bind_op, Prog.bind_ret, Prog.pure_eq_ret]
  iintro ⟨HX, HW⟩
  iapply (load_weights c 1 rfl) $$ HW; iintro HW
  iapply (load_head c (kh c) 2 (keptOff2 c)) $$ HX; iintro HX
  iapply (load_weights c 2 rfl) $$ HW; iintro HW
  iapply (load_head c (kh c) 3 (keptOff3 c)) $$ HX; iintro HX
  iapply (load_weights c 3 rfl) $$ HW; iintro HW
  iapply (load_head c (kh c) 4 (keptOff4 c)) $$ HX; iintro HX
  iapply (load_weights c 4 rfl) $$ HW; iintro HW
  iapply (load_head c (kh c) 5 (keptOff5 c)) $$ HX; iintro HX
  iapply (load_weights c 5 rfl) $$ HW; iintro HW
  iapply wp_done
  isplitr; · (ipureintro; rfl)
  isplitl [HX]; · iexact HX
  iexact HW

end Cert.KernelIdeal.Talk

end
-- ==== Proof.Handshake.lean ====
/-
  The handshake. At its first point a device tells its three partners that it has entered: with that it hands them the slots
  they are to write, and that its own cells are open; once the three have told it the same, it holds what the first stage of
  every chunk asks.
-/
module

public import proofs.«01_k».proof.Proof.Sums

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem pz_py (c : Dev nD) : pz (py c) = pd c := by revert c; decide

/-! ## Before the handshake -/

/-- What device `c` holds of chunk `i` before the handshake: its own slots and cells, and the tokens for its partners' cells. -/
def startChunk (c : Dev nD) (i : Fin 4) : sProp 𝕄 :=
  iprop((anyS (F := F) c (keepS i) ∗ anyS (F := F) c (sendS i))
    ∗ (anyS (F := F) c (recvS i) ∗ anyS (F := F) c (outS (qd c) i) ∗ anyS (F := F) c (outS (qd (py c)) i)
      ∗ anyS (F := F) c (outS (qd (pz c)) i) ∗ anyS (F := F) c (outS (qd (pd c)) i))
    ∗ (kit (F := F) c .xs i ∗ kit (F := F) c .ys i ∗ kit (F := F) c .zs i ∗ kit (F := F) c .fs i ∗ kit (F := F) c .lc i)
    ∗ (await (F := F) c .xr i ∗ await (F := F) c .yr i ∗ await (F := F) c .zr i ∗ await (F := F) c .fr i)
    ∗ (dutyTok ER (cl (px c) .xr i) 0 0 ∗ dutyTok ER (cl (py c) .yr i) 0 0 ∗ dutyTok ER (cl (pz c) .zr i) 0 0 ∗ dutyTok ER (cl (pf i c) .fr i) 0 0)
    ∗ (reached ER (cl c .xr i) 0 ∗ reached ER (cl c .yr i) 0 ∗ reached ER (cl c .zr i) 0 ∗ reached ER (cl c .fr i) 0))

/-- What is left of that after the handshake's three gifts. -/
def restChunk (c : Dev nD) (i : Fin 4) : sProp 𝕄 :=
  iprop((anyS (F := F) c (keepS i) ∗ anyS (F := F) c (sendS i)) ∗ anyS (F := F) c (outS (qd c) i)
    ∗ (kit (F := F) c .xs i ∗ kit (F := F) c .ys i ∗ kit (F := F) c .zs i ∗ kit (F := F) c .fs i ∗ kit (F := F) c .lc i)
    ∗ (await (F := F) c .xr i ∗ await (F := F) c .yr i ∗ await (F := F) c .zr i ∗ await (F := F) c .fr i)
    ∗ (dutyTok ER (cl (px c) .xr i) 0 0 ∗ dutyTok ER (cl (py c) .yr i) 0 0 ∗ dutyTok ER (cl (pz c) .zr i) 0 0 ∗ dutyTok ER (cl (pf i c) .fr i) 0 0))

omit [FloatOps F] in
/-- A device's gifts to its partners. -/
theorem gift_x (c : Dev nD) (i : Fin 4) : iprop(anyS (F := F) c (recvS i) ∗ reached ER (cl c .xr i) 0) ⊢ gift (F := F) 0 (px c) i := by
  unfold gift
  dsimp only
  rw [px_px]

omit [FloatOps F] in
theorem gift_yz (c : Dev nD) (i : Fin 4) :
    iprop((anyS (F := F) c (outS (qd (py c)) i) ∗ anyS (F := F) c (outS (qd (pz c)) i) ∗ anyS (F := F) c (outS (qd (pd c)) i))
        ∗ (reached ER (cl c .yr i) 0 ∗ reached ER (cl c .zr i) 0 ∗ reached ER (cl c .fr i) 0))
      ⊢ iprop(gift (F := F) 1 (py c) i ∗ gift (F := F) 2 (pz c) i) := by
  unfold gift
  dsimp only
  rw [py_py, pz_pz]
  cases h : ev i
  · have e : giftF (F := F) i (py c) = iprop(anyS (F := F) c (outS (qd (pd c)) i) ∗ reached ER (cl c .fr i) 0) := by
      unfold giftF pf fo; rw [h]; simp only [Bool.false_eq_true, if_false]; rw [py_py, pz_py]
    simp only [Bool.false_eq_true, if_false]
    rw [e]
    iintro ⟨⟨H1, H2, H3⟩, ⟨R1, R2, R3⟩⟩
    isplitl [H1 H3 R1 R3]
    · isplitl [H1 R1]
      · isplitl [H1]; · iexact H1
        iexact R1
      · isplitl [H3]; · iexact H3
        iexact R3
    · isplitl [H2 R2]
      · isplitl [H2]; · iexact H2
        iexact R2
      · iempintro
  · have e : giftF (F := F) i (pz c) = iprop(anyS (F := F) c (outS (qd (pd c)) i) ∗ reached ER (cl c .fr i) 0) := by
      unfold giftF pf fo; rw [h]; simp only [if_true]; rw [pz_pz]; rfl
    simp only [if_true]
    rw [e]
    iintro ⟨⟨H1, H2, H3⟩, ⟨R1, R2, R3⟩⟩
    isplitl [H1 R1]
    · isplitl [H1 R1]
      · isplitl [H1]; · iexact H1
        iexact R1
      · iempintro
    · isplitl [H2 R2]
      · isplitl [H2]; · iexact H2
        iexact R2
      · isplitl [H3]; · iexact H3
        iexact R3

omit [FloatOps F] in
theorem start_give (c : Dev nD) (i : Fin 4) :
    startChunk (F := F) c i ⊢ iprop(gift (F := F) 0 (px c) i ∗ gift (F := F) 1 (py c) i ∗ gift (F := F) 2 (pz c) i ∗ restChunk (F := F) c i) := by
  unfold startChunk restChunk
  iintro ⟨HA, ⟨H1, H2, H3, H4, H5⟩, HK, HW, HT, ⟨R1, R2, R3, R4⟩⟩
  isplitl [H1 R1]
  · iapply gift_x; isplitl [H1]; · iexact H1
    iexact R1
  ihave Hg := (gift_yz (F := F) c i) $$ [H3 H4 H5 R2 R3 R4]
  · isplitl [H3 H4 H5]
    · isplitl [H3]; · iexact H3
      isplitl [H4]; · iexact H4
      iexact H5
    · isplitl [R2]; · iexact R2
      isplitl [R3]; · iexact R3
      iexact R4
  icases Hg with ⟨G1, G2⟩
  isplitl [G1]; · iexact G1
  isplitl [G2]; · iexact G2
  isplitl [HA]; · iexact HA
  isplitl [H2]; · iexact H2
  isplitl [HK]; · iexact HK
  isplitl [HW]; · iexact HW
  iexact HT

omit [FloatOps F] in
theorem bigSep_parts (A B C D : Fin 4 → sProp 𝕄) :
    (bigSep Finset.univ fun i => iprop(A i ∗ B i ∗ C i ∗ D i))
      = iprop(bigSep Finset.univ A ∗ bigSep Finset.univ B ∗ bigSep Finset.univ C ∗ bigSep Finset.univ D) := by
  refine (bigSep_sep ..).trans ?_
  refine congrArg (fun X => iprop(bigSep Finset.univ A ∗ X)) ?_
  refine (bigSep_sep ..).trans ?_
  refine congrArg (fun X => iprop(bigSep Finset.univ B ∗ X)) ?_
  exact bigSep_sep ..

omit [FloatOps F] in
/-- What the partners' gifts along `y` and `z` bring. -/
theorem gifts_yz (c : Dev nD) (i : Fin 4) :
    iprop(gift (F := F) 1 c i ∗ gift (F := F) 2 c i)
      ⊢ iprop((anyS (F := F) (py c) (outS (qd c) i) ∗ reached ER (cl (py c) .yr i) 0) ∗ (anyS (F := F) (pz c) (outS (qd c) i) ∗ reached ER (cl (pz c) .zr i) 0)
        ∗ (anyS (F := F) (pf i c) (outS (qd (fo i c)) i) ∗ reached ER (cl (pf i c) .fr i) 0)) := by
  unfold gift
  dsimp only
  cases ev i
  · simp only [Bool.false_eq_true, if_false]
    iintro ⟨⟨H1, H2⟩, ⟨H3, -⟩⟩
    isplitl [H1]; · iexact H1
    isplitl [H3]; · iexact H3
    iapply (show giftF (F := F) i c ⊢ iprop(anyS (F := F) (pf i c) (outS (qd (fo i c)) i) ∗ reached ER (cl (pf i c) .fr i) 0) from .rfl); iexact H2
  · simp only [if_true]
    iintro ⟨⟨H1, -⟩, ⟨H3, H2⟩⟩
    isplitl [H1]; · iexact H1
    isplitl [H3]; · iexact H3
    iapply (show giftF (F := F) i c ⊢ iprop(anyS (F := F) (pf i c) (outS (qd (fo i c)) i) ∗ reached ER (cl (pf i c) .fr i) 0) from .rfl); iexact H2

variable (m : (ℓ : Loc nD τ sig) → Buf (Elt F) ℓ)

theorem start_take (c : Dev nD) (i : Fin 4) :
    iprop(restChunk (F := F) c i ∗ gift (F := F) 0 c i ∗ gift (F := F) 1 c i ∗ gift (F := F) 2 c i) ⊢ chunk m c i (.acc 0) := by
  unfold restChunk chunk toX toYZ toF goal keepAt sendAt
  iintro ⟨⟨⟨HA, HB⟩, HO, ⟨K1, K2, K3, K4, K5⟩, ⟨W1, W2, W3, W4⟩, ⟨T1, T2, T3, T4⟩⟩, G0, G1, G2⟩
  ihave Hg := (gifts_yz (F := F) c i) $$ [G1 G2]
  · isplitl [G1]; · iexact G1
    iexact G2
  icases Hg with ⟨⟨S1, R1⟩, ⟨S2, R2⟩, ⟨S3, R3⟩⟩
  ihave G0' := (show gift (F := F) 0 c i ⊢ iprop(anyS (F := F) (px c) (recvS i) ∗ reached ER (cl (px c) .xr i) 0) from .rfl) $$ G0
  icases G0' with ⟨S0, R0⟩
  isplitl [HA]; · iexact HA
  isplitl [HB]; · iexact HB
  isplitl [K1 T1 R0 S0]
  · isplitl [K1]; · iexact K1
    isplitl [T1 R0]
    · isplitl [T1]; · iexact T1
      iexact R0
    iexact S0
  isplitl [W1]; · iexact W1
  isplitl [K2 T2 R1 S1 K3 T3 R2 S2 K5 HO]
  · isplitl [K2 T2 R1 S1]
    · isplitl [K2]; · iexact K2
      isplitl [T2 R1]
      · isplitl [T2]; · iexact T2
        iexact R1
      iexact S1
    isplitl [K3 T3 R2 S2]
    · isplitl [K3]; · iexact K3
      isplitl [T3 R2]
      · isplitl [T3]; · iexact T3
        iexact R2
      iexact S2
    isplitl [K5]; · iexact K5
    iexact HO
  isplitl [W2]; · iexact W2
  isplitl [W3]; · iexact W3
  isplitl [K4 T4 R3 S3]
  · isplitl [K4]; · iexact K4
    isplitl [T4 R3]
    · isplitl [T4]; · iexact T4
      iexact R3
    iexact S3
  iexact W4

/-- The four chunks' gifts, gathered by partner. -/
theorem starts_give (c : Dev nD) :
    bigSep Finset.univ (fun i => startChunk (F := F) c i)
      ⊢ iprop(barPay (F := F) 0 (px c) ∗ barPay (F := F) 1 (py c) ∗ barPay (F := F) 2 (pz c) ∗ bigSep Finset.univ fun i => restChunk (F := F) c i) := by
  unfold barPay
  refine (bigSep_mono fun i _ => start_give c i).trans ?_
  exact Idealize.SL.BI.BIBase.Entails.of_eq (bigSep_parts ..)

theorem starts_take (c : Dev nD) :
    iprop(bigSep Finset.univ (fun i => restChunk (F := F) c i) ∗ barPay (F := F) 0 c ∗ barPay (F := F) 1 c ∗ barPay (F := F) 2 c)
      ⊢ chunks m c (stageAt 0) := by
  unfold barPay chunks
  refine Idealize.SL.BI.BIBase.Entails.trans (Q := bigSep Finset.univ fun i => iprop(restChunk (F := F) c i ∗ gift (F := F) 0 c i ∗ gift (F := F) 1 c i ∗ gift (F := F) 2 c i)) ?_
    (bigSep_mono fun i _ => ?_)
  · exact Idealize.SL.BI.BIBase.Entails.of_eq (bigSep_parts ..).symm
  · have e : stageAt 0 i = .acc 0 := by revert i; decide
    rw [e]
    exact start_take m c i

/-! ## The handshake -/

/-- The handshake's cells: its own, with what it waits for, and the tokens for its partners'. -/
def barKit (c : Dev nD) : sProp 𝕄 :=
  iprop((atPos ER (barCell c) 0 ∅ 0 ∗ cred (tallyAt (barCell c) () 3))
    ∗ (dutyTok ER (barCell (px c)) 0 0 ∗ reached ER (barCell (px c)) 0)
    ∗ (dutyTok ER (barCell (py c)) 0 1 ∗ reached ER (barCell (py c)) 0)
    ∗ (dutyTok ER (barCell (pz c)) 0 2 ∗ reached ER (barCell (pz c)) 0))

/-- What a device holds before its first point. -/
def start (c : Dev nD) : sProp 𝕄 := iprop(barKit (F := F) c ∗ bigSep Finset.univ fun i => startChunk (F := F) c i)

variable (κ : GSem nD τ sig → ℕ)

/-- What holds around the handshake: at the first point the start becomes the first stages, elsewhere nothing changes. -/
def opened (c : Dev nD) (b k : Nat) : sProp 𝕄 := iprop(semVal (barCell c) 0 ∗ chunks m c (stageAt (4 * b + k)) ∗ debt (F := F) c b (b - 1) (b - 2))
def closed (c : Dev nD) (b k : Nat) : sProp 𝕄 :=
  if b = 0 ∧ k = 0 then iprop(start (F := F) c ∗ (∃ W, owes (c : Thread nD τ) (O₀ c) W)) else opened m c b k

theorem part12_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole) :
    iprop(recs m κ ∗ levAts L lv ∗ closed m c (gb p) (gk p))
      ⊢ WP c (k0_part12 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13)
        fun r => iprop(⌜r.2.2.1 = c⌝ ∗ opened m c (gb p) (gk p)) := by
  rw [k0_part12_eq_skeleton]
  unfold k0_part12_skel
  simp only [Prog.lift, Prog.bind_op, Prog.bind_ret, Prog.pure_eq_ret, semSignalWord, semWaitWord]
  rw [show ∀ (k : Dev nD → Prog (TpuEff nD τ sig (Elt F) Λ₀ .tc) _) Q, WP c (.op .deviceId k) Q = WP c (k c) Q from fun k Q => wp_deviceId ..]
  split
  · next h1 =>
    have hb := (cond1_iff p).mp h1
    unfold closed
    rw [if_pos hb]
    unfold start barKit O₀
    iintro ⟨#Hrec, #Hlev, ⟨⟨⟨Hat, Hc⟩, ⟨T0, R0⟩, ⟨T1, R1⟩, ⟨T2, R2⟩⟩, HS⟩, ⟨%W, HO⟩⟩
    ihave Hg := (starts_give (F := F) c) $$ HS
    icases Hg with ⟨G0, G1, G2, HR⟩
    iapply (signal_bar m κ c (px c) 0 (dev1_eq c _) rfl (owed c 0 0 0 + tallyAt (barCell (pz c)) () 1 + tallyAt (barCell (py c)) () 1) W) $$ [HO T0 R0 G0]
    · isplitr; · iexact Hrec
      isplitl [HO]; · iexact HO
      isplitl [T0]; · iexact T0
      isplitl [R0]; · iexact R0
      iexact G0
    iintro HO
    iapply (signal_bar m κ c (py c) 1 (dev2_eq c _) rfl (owed c 0 0 0 + tallyAt (barCell (pz c)) () 1) W) $$ [HO T1 R1 G1]
    · isplitr; · iexact Hrec
      isplitl [HO]; · iexact HO
      isplitl [T1]; · iexact T1
      isplitl [R1]; · iexact R1
      iexact G1
    iintro HO
    iapply (signal_bar m κ c (pz c) 2 (dev3_eq c _) rfl (owed c 0 0 0) W) $$ [HO T2 R2 G2]
    · isplitr; · iexact Hrec
      isplitl [HO]; · iexact HO
      isplitl [T2]; · iexact T2
      isplitl [R2]; · iexact R2
      iexact G2
    iintro HO
    iapply (wait_bar m κ c rfl (owed c 0 0 0) (above_owed c (by omega) (by omega) (by omega)) W) $$ [HO Hat Hc]
    · isplitr; · iexact Hrec
      isplitr; · iexact Hlev
      isplitl [HO]; · iexact HO
      isplitl [Hat]; · iexact Hat
      iexact Hc
    iintro ⟨⟨%W', HO⟩, Hz, G0, G1, G2⟩
    iapply wp_done
    isplitr; · (ipureintro; rfl)
    unfold opened debt
    rw [hb.1, hb.2]
    isplitl [Hz]; · iexact Hz
    isplitl [HR G0 G1 G2]
    · iapply (starts_take m c)
      isplitl [HR]; · iexact HR
      isplitl [G0]; · iexact G0
      isplitl [G1]; · iexact G1
      iexact G2
    iexists W'; iexact HO
  · next h1 =>
    have hb := mt (cond1_iff p).mpr h1
    unfold closed
    rw [if_neg hb]
    iintro ⟨-, -, H⟩
    iapply wp_done
    isplitr; · (ipureintro; rfl)
    iexact H

end Cert.KernelIdeal.Talk

end
-- ==== Proof.Moves.lean ====
/-
  The moves: each copy a device starts and each wait it makes, as a step on what it holds of a chunk and on what it owes.
-/
module

public import proofs.«01_k».proof.Proof.Handshake

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- A semaphore of a row, by role. -/
theorem at_sem {A : DmaSems sig S4} {ρ : Role} {i : Fin 4} (hA : sqS A ![i.val] (semOff_inb i) = semOf ρ i) {off : Fin 1 → Nat} (e : off = ![i.val])
    (h : ∀ a, off a + S1.size a ≤ S4.size a) : sqS A off h = semOf ρ i := by subst e; exact hA

/-- What a transfer into a slot credits. -/
theorem credit_sqO (off : Fin 3 → Nat) (h : ∀ a, off a + S1x1024x512.size a ≤ S1x1024x8192.size a) : (sqO off h).view.dmaCredit = NO := rfl
theorem credit_keep (off : Fin 3 → Nat) (h : ∀ a, off a + S1x1024x512.size a ≤ S4x1024x512.size a) : (sqV keepM off h).view.dmaCredit = NO := rfl
theorem credit_send (off : Fin 3 → Nat) (h : ∀ a, off a + S1x1024x512.size a ≤ S4x1024x512.size a) : (sqV sendM off h).view.dmaCredit = NX := rfl
theorem credit_sqR (off : Fin 3 → Nat) (h : ∀ a, off a + S1x1024x512.size a ≤ S4x1024x512.size a) : (sqV recvM off h).view.dmaCredit = NX := rfl

/-- A wait. -/
theorem move_wait (c : Dev nD) (ρ : Role) (i : Fin 4) {sm : DmaSem sig} (hs : sm = semOf ρ i) {sp sp' : Space}
    {src : Memref sig .tc sp S1024x512 .f32} {dst : Memref sig .tc sp' S1024x512 .f32} {hsrc : src.view.WordExact} {hdst : dst.view.WordExact}
    (hN : dst.view.dmaCredit = amt ρ) {a b d : Nat} (hO : Above (lvR ρ i) (owed c a b d))
    {α : Type} {Q : α → sProp 𝕄} {k : PUnit → Prog (TpuEff nD τ sig (Elt F) Λ₀ .tc) α} :
    iprop(recs m κ ∗ levAts L lv ∗ debt (F := F) c a b d ∗ await (F := F) c ρ i)
      ⊢ iprop(((debt (F := F) c a b d ∗ got m c ρ i) -∗ WP c (k ⟨⟩) Q) -∗ WP c (.op (.waitDma2 sm src dst hsrc hdst) k) Q) := by
  unfold debt await got idle
  exact wait_slot m κ c ρ i hs hN (owed c a b d) hO

/-- A copy to a partner, by what is owed before and after it. -/
theorem move_send (c c' : Dev nD) (ρs ρr : Role) (i : Fin 4) {sp sp' : Space} {S : Memref sig .tc sp S1024x512 .f32} {D : Memref sig .tc sp' S1024x512 .f32}
    {src : Memref sig .tc sp S1024x512 .f32} {n : Dev nD} {dst : Memref sig (Dev.tc n : Thread nD τ).2.kind sp' S1024x512 .f32}
    {sS sR : SemLoc sig} (hS : src = S) (hn : n = c') (hD : dst = D) (hsS : sS = .dma (semOf ρs i)) (hsR : sR = .dma (semOf ρr i))
    {hsc : dst.view.ref.isScScratch = false} {hsrc : src.view.WordExact} {hdst : dst.view.WordExact}
    {hsem : DmaTarget.Typed sp sR (.remote (Dev.tc n : Thread nD τ) dst sS hsc)}
    {q : PosShare TreeShare} {X : Blk F} (O O' : CellTallies nD τ sig Unit) (hO : O' = O + tallyAt (cl c' ρr i) () (amt ρr))
    (hN : D.view.dmaCredit = amt ρr) (hsr : amt ρs = amt ρr)
    (hp₁ : (ownsTc c S q X : sProp 𝕄) ⊢ pay m ρs i c) (hp₂ : (ownsTc c' D fullShare X : sProp 𝕄) ⊢ pay m ρr i c')
    {α : Type} {Q : α → sProp 𝕄} {k : PUnit → Prog (TpuEff nD τ sig (Elt F) Λ₀ .tc) α} :
    iprop(recs m κ ∗ ownsTc c S q X ∗ (kit (F := F) c ρs i ∗ goal (F := F) c' ρr i ∗ anyS (F := F) c' D) ∗ (∃ W, owes (c : Thread nD τ) O' W))
      ⊢ iprop(((await (F := F) c ρs i ∗ (∃ W, owes (c : Thread nD τ) O W)) -∗ WP c (k ⟨⟩) Q)
          -∗ WP c (.op (.enqueueDma src (.remote (Dev.tc n : Thread nD τ) dst sS hsc) sR hsrc hdst hsem) k) Q) := by
  unfold kit goal await
  subst hO
  iintro ⟨#Hrec, HX, ⟨⟨Hat, HsT, HsR⟩, ⟨HtT, HtR⟩, HY⟩, ⟨%W, HO⟩⟩ Hk
  iapply (send_slot m κ c c' ρs ρr i hS hn hD hsS hsR O W hN hsr hp₁ hp₂) $$ [HX HY HO HsT HsR HtT HtR]
  · isplitr; · iexact Hrec
    isplitl [HX]; · iexact HX
    isplitl [HY]; · iexact HY
    isplitl [HO]; · iexact HO
    isplitl [HsT HsR]
    · isplitl [HsT]; · iexact HsT
      iexact HsR
    isplitl [HtT]; · iexact HtT
    iexact HtR
  iintro ⟨Hc, HO⟩
  iapply Hk
  isplitl [Hat Hc]
  · isplitl [Hat]; · iexact Hat
    iexact Hc
  iexists W; iexact HO

/-- The copy into the own result. -/
theorem move_local (c : Dev nD) (i : Fin 4) {src : Memref sig .tc .vmem S1024x512 .f32} {dst : Memref sig .tc .hbm S1024x512 .f32} {sR : SemLoc sig}
    (hS : src = keepS i) (hD : dst = outS (qd c) i) (hsR : sR = .dma (semOf .lc i))
    {hsrc : src.view.WordExact} {hdst : dst.view.WordExact} {hsem : DmaTarget.Typed (nD := nD) .vmem sR (.here (p := .tc) dst)}
    {α : Type} {Q : α → sProp 𝕄} {k : PUnit → Prog (TpuEff nD τ sig (Elt F) Λ₀ .tc) α} :
    iprop(recs m κ ∗ ownsTc c (keepS i) ql (keepV m c i) ∗ (kit (F := F) c .lc i ∗ anyS (F := F) c (outS (qd c) i)))
      ⊢ iprop((await (F := F) c .lc i -∗ WP c (k ⟨⟩) Q)
          -∗ WP c (.op (.enqueueDma src (.here (p := .tc) dst) sR hsrc hdst hsem) k) Q) := by
  unfold kit await
  iintro ⟨#Hrec, HX, ⟨⟨Hat, HsT, HsR⟩, HY⟩⟩ Hk
  iapply (copy_slot m κ c i hS hD hsR) $$ [HX HY HsT HsR]
  · isplitr; · iexact Hrec
    isplitl [HX]; · iexact HX
    isplitl [HY]; · iexact HY
    isplitl [HsT]; · iexact HsT
    iexact HsR
  iintro Hc
  iapply Hk
  isplitl [Hat]; · iexact Hat
  iexact Hc

omit [FloatOps F] in
/-- A kept chunk's three shares. -/
theorem keep_split (c : Dev nD) (i : Fin 4) (X : Blk F) :
    (ownsTc c (keepS i) fullShare X : sProp 𝕄) ⊢ iprop(ownsTc c (keepS i) qy X ∗ ownsTc c (keepS i) qz X ∗ ownsTc c (keepS i) ql X) := by
  unfold ownsTc
  refine (owns_halves ..).1.trans ?_
  iintro ⟨H1, H2⟩
  isplitl [H1]; · iexact H1
  ihave H3 := ((owns_halves ..).1) $$ H2
  iexact H3

/-- The two chunks that arrive along `y` and `z`: the one to forward and the other. -/
theorem pay_forward (c : Dev nD) (i : Fin 4) :
    iprop(pay m .yr i c ∗ pay m .zr i c)
      ⊢ iprop(ownsTc c (outS (qd (fo i c)) i) fullShare (keepV m (fo i c) i) ∗ ownsTc c (outS (qd (pf i c)) i) fullShare (keepV m (pf i c) i)) := by
  unfold pay
  dsimp only
  cases h : ev i
  · have e1 : fo i c = pz c := by unfold fo; rw [h]; rfl
    have e2 : pf i c = py c := by unfold pf; rw [h]; rfl
    rw [e1, e2]
    iintro ⟨H1, H2⟩
    isplitl [H2]; · iexact H2
    iexact H1
  · have e1 : fo i c = py c := by unfold fo; rw [h]; rfl
    have e2 : pf i c = pz c := by unfold pf; rw [h]; rfl
    rw [e1, e2]

/-- The chunk forwarded to a device is the one of the device across the square. -/
theorem forward_pay (c : Dev nD) (i : Fin 4) :
    (ownsTc (pf i c) (outS (qd (fo i c)) i) fullShare (keepV m (fo i c) i) : sProp 𝕄) ⊢ pay m .fr i (pf i c) := by
  show _ ⊢ (ownsTc (pf i c) (outS (qd (pd (pf i c))) i) fullShare (keepV m (pd (pf i c)) i) : sProp 𝕄)
  rw [pd_pf]

theorem piece4_run (c : Dev nD) (p : grid0.Coords) (i : Fin 4) (hi : gb p = i.val + 1) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 w1 w2 w3 w4 w5 w6 : BitVec 32) (hc6 : k0_cond6 p = 1#1) (hc7 : k0_cond7 p = 1#1) :
    iprop(recs m κ ∗ levAts L lv ∗ keepAt m c i 4 ∗ await (F := F) c .xr i ∗ debt (F := F) c (i.val + 2) i.val (i.val - 1))
      ⊢ WP c (k0_part4 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 w0 w1 w2 w3 w4 w5 w6 hc6 hc7)
        fun _ => iprop(ownsTc c (keepS i) fullShare (keepV m c i) ∗ got m c .xr i ∗ debt (F := F) c (i.val + 2) i.val (i.val - 1)) := by
  have e21 : k0_off21 p = ![i.val] := by rw [off21_eq p (by omega), show gb p - 1 = i.val by omega]
  have e23 : k0_off23 p = slotOff i := by rw [off23_eq p (by omega), show gb p - 1 = i.val by omega]; rfl
  have e22 : k0_off22 p = slotOff i := by rw [off22_eq p (by omega), show gb p - 1 = i.val by omega]; rfl
  have hxr : Above (lvR .xr i) (owed c (i.val + 2) i.val (i.val - 1)) :=
    above_owed c (by unfold lvR; dsimp only; omega) (by unfold lvR; dsimp only; omega) (by unfold lvR; dsimp only; omega)
  rw [k0_part4_eq_skeleton]
  unfold k0_part4_skel
  simp only [Prog.lift, Prog.bind_op, Prog.bind_ret, Prog.pure_eq_ret]
  iintro ⟨#Hrec, #Hlev, HK, Hw, HO⟩
  iapply (move_wait m κ c .xr i (at_sem (sem_xr i) e21 _) (credit_sqR _ _) hxr) $$ [Hw HO]
  · isplitr; · iexact Hrec
    isplitr; · iexact Hlev
    isplitl [HO]; · iexact HO
    iexact Hw
  iintro ⟨HO, Hg⟩
  unfold got
  icases Hg with ⟨Hi, HR⟩
  ihave HR := (show pay m .xr i c ⊢ (ownsTc c (recvS i) fullShare (sendV m (px c) i) : sProp 𝕄) from .rfl) $$ HR
  ihave HK := (show keepAt m c i 4 ⊢ (ownsTc c (keepS i) fullShare (kAcc m c i 3) : sProp 𝕄) from .rfl) $$ HK
  iapply (load_slot c (keepS_of e23 _)) $$ HK
  iintro HK
  iapply (load_slot c (recvS_of e23 _)) $$ HR
  iintro HR
  iapply (load_slot c (keepS_of e23 _)) $$ HK
  iintro HK
  iapply (store_slot c (keepS_of e23 _)) $$ HK
  iintro HK
  iapply wp_done
  isplitl [HK]; · iexact HK
  isplitl [Hi HR]
  · isplitl [Hi]; · iexact Hi
    iapply (show (ownsTc c (recvS i) fullShare (sendV m (px c) i) : sProp 𝕄) ⊢ pay m .xr i c from .rfl); iexact HR
  iexact HO

theorem piece5_run (c : Dev nD) (p : grid0.Coords) (i : Fin 4) (hi : gb p = i.val + 2) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 w1 w2 w3 w4 w5 w6 w7 : BitVec 32) (hc6 : k0_cond6 p = 1#1) (hc8 : k0_cond8 p = 1#1) :
    iprop(recs m κ ∗ levAts L lv ∗ await (F := F) c .yr i ∗ await (F := F) c .zr i ∗ debt (F := F) c (i.val + 3) (i.val + 2) i.val)
      ⊢ WP c (k0_part5 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 w0 c w1 w2 w3 w4 w5 w6 w7 hc6 hc8)
        fun _ => iprop(got m c .yr i ∗ got m c .zr i ∗ debt (F := F) c (i.val + 3) (i.val + 2) i.val) := by
  have e25 : k0_off25 p = ![i.val] := by rw [off25_eq p (by omega), show gb p - 2 = i.val by omega]
  have hyr : Above (lvR .yr i) (owed c (i.val + 3) (i.val + 2) i.val) :=
    above_owed c (by unfold lvR; dsimp only; omega) (by unfold lvR; dsimp only; omega) (by unfold lvR; dsimp only; omega)
  rw [k0_part5_eq_skeleton]
  unfold k0_part5_skel
  simp only [Prog.lift, Prog.bind_op, Prog.bind_ret, Prog.pure_eq_ret]
  iintro ⟨#Hrec, #Hlev, Hy, Hz, HO⟩
  iapply (move_wait m κ c .yr i (at_sem (sem_yr i) e25 _) (credit_sqO _ _) hyr) $$ [Hy HO]
  · isplitr; · iexact Hrec
    isplitr; · iexact Hlev
    isplitl [HO]; · iexact HO
    iexact Hy
  iintro ⟨HO, Hy⟩
  iapply (move_wait m κ c .zr i (at_sem (sem_zr i) e25 _) (credit_sqO _ _) hyr) $$ [Hz HO]
  · isplitr; · iexact Hrec
    isplitr; · iexact Hlev
    isplitl [HO]; · iexact HO
    iexact Hz
  iintro ⟨HO, Hz⟩
  iapply wp_done
  isplitl [Hy]; · iexact Hy
  isplitl [Hz]; · iexact Hz
  iexact HO

end Cert.KernelIdeal.Talk

end
-- ==== Proof.Drain.lean ====
/-
  The last waits. At its last point a device waits, chunk by chunk, for every copy it has started.
-/
module

public import proofs.«01_k».proof.Proof.Moves

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- Nothing is owed any more. -/
abbrev clear (c : Dev nD) : sProp 𝕄 := debt (F := F) c 4 4 4

theorem above_clear (c : Dev nD) (n : Nat) : Above n (owed c 4 4 4) := above_owed c (.inr le_rfl) (.inr le_rfl) (.inr le_rfl)

/-- A last wait. -/
theorem last_wait (c : Dev nD) (ρ : Role) (i : Fin 4) {sm : DmaSem sig} (hs : sm = semOf ρ i) {sp sp' : Space}
    {src : Memref sig .tc sp S1024x512 .f32} {dst : Memref sig .tc sp' S1024x512 .f32} {hsrc : src.view.WordExact} {hdst : dst.view.WordExact}
    (hN : dst.view.dmaCredit = amt ρ) {α : Type} {Q : α → sProp 𝕄} {k : PUnit → Prog (TpuEff nD τ sig (Elt F) Λ₀ .tc) α} :
    iprop(recs m κ ∗ levAts L lv ∗ clear (F := F) c ∗ await (F := F) c ρ i)
      ⊢ iprop(((clear (F := F) c ∗ got m c ρ i) -∗ WP c (k ⟨⟩) Q) -∗ WP c (.op (.waitDma2 sm src dst hsrc hdst) k) Q) :=
  move_wait m κ c ρ i hs hN (above_clear c _)

theorem piece6_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 w1 : BitVec 32) (hc6 : k0_cond6 p = 1#1) (hc14 : k0_cond14 p = 1#1) :
    iprop(recs m κ ∗ levAts L lv ∗ clear (F := F) c ∗ await (F := F) c .xs 0 ∗ await (F := F) c .ys 0 ∗ await (F := F) c .zs 0)
      ⊢ WP c (k0_part6 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c w0 w1 hc6 hc14)
        fun _ => iprop(clear (F := F) c ∗ got m c .xs 0 ∗ got m c .ys 0 ∗ got m c .zs 0) := by
  rw [k0_part6_eq_skeleton]
  unfold k0_part6_skel
  simp only [Prog.lift, Prog.bind_op, Prog.bind_ret, Prog.pure_eq_ret]
  iintro ⟨#Hrec, #Hlev, HO, H0, H1, H2⟩
  iapply (last_wait m κ c .xs 0 (at_sem (sem_xs 0) rfl _) (credit_send _ _)) $$ [HO H0]
  · isplitr; · iexact Hrec
    isplitr; · iexact Hlev
    isplitl [HO]; · iexact HO
    iexact H0
  iintro ⟨HO, H0⟩
  iapply (last_wait m κ c .ys 0 (at_sem (sem_ys 0) rfl _) (credit_keep _ _)) $$ [HO H1]
  · isplitr; · iexact Hrec
    isplitr; · iexact Hlev
    isplitl [HO]; · iexact HO
    iexact H1
  iintro ⟨HO, H1⟩
  iapply (last_wait m κ c .zs 0 (at_sem (sem_zs 0) rfl _) (credit_keep _ _)) $$ [HO H2]
  · isplitr; · iexact Hrec
    isplitr; · iexact Hlev
    isplitl [HO]; · iexact HO
    iexact H2
  iintro ⟨HO, H2⟩
  iapply wp_done
  isplitl [HO]; · iexact HO
  isplitl [H0]; · iexact H0
  isplitl [H1]; · iexact H1
  iexact H2

theorem piece7_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 : BitVec 32) (hc6 : k0_cond6 p = 1#1) (hc14 : k0_cond14 p = 1#1) (w1 : BitVec 32) :
    iprop(recs m κ ∗ levAts L lv ∗ clear (F := F) c ∗ await (F := F) c .fs 0 ∗ await (F := F) c .lc 0 ∗ await (F := F) c .xs 1)
      ⊢ WP c (k0_part7 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c w0 hc6 hc14 w1)
        fun _ => iprop(clear (F := F) c ∗ got m c .fs 0 ∗ got m c .lc 0 ∗ got m c .xs 1) := by
  rw [k0_part7_eq_skeleton]
  unfold k0_part7_skel
  simp only [Prog.lift, Prog.bind_op, Prog.bind_ret, Prog.pure_eq_ret]
  iintro ⟨#Hrec, #Hlev, HO, H0, H1, H2⟩
  iapply (last_wait m κ c .fs 0 (at_sem (sem_fs_ev 0 rfl) rfl _) (credit_sqO _ _)) $$ [HO H0]
  · isplitr; · iexact Hrec
    isplitr; · iexact Hlev
    isplitl [HO]; · iexact HO
    iexact H0
  iintro ⟨HO, H0⟩
  iapply (last_wait m κ c .lc 0 (at_sem (sem_lc 0) rfl _) (credit_sqO _ _)) $$ [HO H1]
  · isplitr; · iexact Hrec
    isplitr; · iexact Hlev
    isplitl [HO]; · iexact HO
    iexact H1
  iintro ⟨HO, H1⟩
  iapply (last_wait m κ c .xs 1 (at_sem (sem_xs 1) rfl _) (credit_send _ _)) $$ [HO H2]
  · isplitr; · iexact Hrec
    isplitr; · iexact Hlev
    isplitl [HO]; · iexact HO
    iexact H2
  iintro ⟨HO, H2⟩
  iapply wp_done
  isplitl [HO]; · iexact HO
  isplitl [H0]; · iexact H0
  isplitl [H1]; · iexact H1
  iexact H2

theorem piece8_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 w1 : BitVec 32) (hc6 : k0_cond6 p = 1#1) (hc14 : k0_cond14 p = 1#1) :
    iprop(recs m κ ∗ levAts L lv ∗ clear (F := F) c ∗ await (F := F) c .ys 1 ∗ await (F := F) c .zs 1 ∗ await (F := F) c .fs 1)
      ⊢ WP c (k0_part8 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c w0 w1 hc6 hc14)
        fun _ => iprop(clear (F := F) c ∗ got m c .ys 1 ∗ got m c .zs 1 ∗ got m c .fs 1) := by
  rw [k0_part8_eq_skeleton]
  unfold k0_part8_skel
  simp only [Prog.lift, Prog.bind_op, Prog.bind_ret, Prog.pure_eq_ret]
  iintro ⟨#Hrec, #Hlev, HO, H0, H1, H2⟩
  iapply (last_wait m κ c .ys 1 (at_sem (sem_ys 1) rfl _) (credit_keep _ _)) $$ [HO H0]
  · isplitr; · iexact Hrec
    isplitr; · iexact Hlev
    isplitl [HO]; · iexact HO
    iexact H0
  iintro ⟨HO, H0⟩
  iapply (last_wait m κ c .zs 1 (at_sem (sem_zs 1) rfl _) (credit_keep _ _)) $$ [HO H1]
  · isplitr; · iexact Hrec
    isplitr; · iexact Hlev
    isplitl [HO]; · iexact HO
    iexact H1
  iintro ⟨HO, H1⟩
  iapply (last_wait m κ c .fs 1 (at_sem (sem_fs_od 1 rfl) rfl _) (credit_sqO _ _)) $$ [HO H2]
  · isplitr; · iexact Hrec
    isplitr; · iexact Hlev
    isplitl [HO]; · iexact HO
    iexact H2
  iintro ⟨HO, H2⟩
  iapply wp_done
  isplitl [HO]; · iexact HO
  isplitl [H0]; · iexact H0
  isplitl [H1]; · iexact H1
  iexact H2

theorem piece9_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 : BitVec 32) (hc6 : k0_cond6 p = 1#1) (hc14 : k0_cond14 p = 1#1) :
    iprop(recs m κ ∗ levAts L lv ∗ clear (F := F) c ∗ await (F := F) c .lc 1 ∗ await (F := F) c .xs 2 ∗ await (F := F) c .ys 2 ∗ await (F := F) c .zs 2)
      ⊢ WP c (k0_part9 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c w0 hc6 hc14)
        fun _ => iprop(clear (F := F) c ∗ got m c .lc 1 ∗ got m c .xs 2 ∗ got m c .ys 2 ∗ got m c .zs 2) := by
  rw [k0_part9_eq_skeleton]
  unfold k0_part9_skel
  simp only [Prog.lift, Prog.bind_op, Prog.bind_ret, Prog.pure_eq_ret]
  iintro ⟨#Hrec, #Hlev, HO, H0, H1, H2, H3⟩
  iapply (last_wait m κ c .lc 1 (at_sem (sem_lc 1) rfl _) (credit_sqO _ _)) $$ [HO H0]
  · isplitr; · iexact Hrec
    isplitr; · iexact Hlev
    isplitl [HO]; · iexact HO
    iexact H0
  iintro ⟨HO, H0⟩
  iapply (last_wait m κ c .xs 2 (at_sem (sem_xs 2) rfl _) (credit_send _ _)) $$ [HO H1]
  · isplitr; · iexact Hrec
    isplitr; · iexact Hlev
    isplitl [HO]; · iexact HO
    iexact H1
  iintro ⟨HO, H1⟩
  iapply (last_wait m κ c .ys 2 (at_sem (sem_ys 2) rfl _) (credit_keep _ _)) $$ [HO H2]
  · isplitr; · iexact Hrec
    isplitr; · iexact Hlev
    isplitl [HO]; · iexact HO
    iexact H2
  iintro ⟨HO, H2⟩
  iapply (last_wait m κ c .zs 2 (at_sem (sem_zs 2) rfl _) (credit_keep _ _)) $$ [HO H3]
  · isplitr; · iexact Hrec
    isplitr; · iexact Hlev
    isplitl [HO]; · iexact HO
    iexact H3
  iintro ⟨HO, H3⟩
  iapply wp_done
  isplitl [HO]; · iexact HO
  isplitl [H0]; · iexact H0
  isplitl [H1]; · iexact H1
  isplitl [H2]; · iexact H2
  iexact H3

theorem piece10_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 w1 : BitVec 32) (hc6 : k0_cond6 p = 1#1) (hc14 : k0_cond14 p = 1#1) :
    iprop(recs m κ ∗ levAts L lv ∗ clear (F := F) c ∗ await (F := F) c .fs 2 ∗ await (F := F) c .lc 2 ∗ await (F := F) c .xs 3)
      ⊢ WP c (k0_part10 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c w0 w1 hc6 hc14)
        fun _ => iprop(clear (F := F) c ∗ got m c .fs 2 ∗ got m c .lc 2 ∗ got m c .xs 3) := by
  rw [k0_part10_eq_skeleton]
  unfold k0_part10_skel
  simp only [Prog.lift, Prog.bind_op, Prog.bind_ret, Prog.pure_eq_ret]
  iintro ⟨#Hrec, #Hlev, HO, H0, H1, H2⟩
  iapply (last_wait m κ c .fs 2 (at_sem (sem_fs_ev 2 rfl) rfl _) (credit_sqO _ _)) $$ [HO H0]
  · isplitr; · iexact Hrec
    isplitr; · iexact Hlev
    isplitl [HO]; · iexact HO
    iexact H0
  iintro ⟨HO, H0⟩
  iapply (last_wait m κ c .lc 2 (at_sem (sem_lc 2) rfl _) (credit_sqO _ _)) $$ [HO H1]
  · isplitr; · iexact Hrec
    isplitr; · iexact Hlev
    isplitl [HO]; · iexact HO
    iexact H1
  iintro ⟨HO, H1⟩
  iapply (last_wait m κ c .xs 3 (at_sem (sem_xs 3) rfl _) (credit_send _ _)) $$ [HO H2]
  · isplitr; · iexact Hrec
    isplitr; · iexact Hlev
    isplitl [HO]; · iexact HO
    iexact H2
  iintro ⟨HO, H2⟩
  iapply wp_done
  isplitl [HO]; · iexact HO
  isplitl [H0]; · iexact H0
  isplitl [H1]; · iexact H1
  iexact H2

theorem piece11_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    (w0 w1 : BitVec 32) (hc6 : k0_cond6 p = 1#1) (hc14 : k0_cond14 p = 1#1) :
    iprop(recs m κ ∗ levAts L lv ∗ clear (F := F) c ∗ await (F := F) c .ys 3 ∗ await (F := F) c .zs 3 ∗ await (F := F) c .fs 3)
      ⊢ WP c (k0_part11 p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13 c w0 w1 hc6 hc14)
        fun _ => iprop(clear (F := F) c ∗ got m c .ys 3 ∗ got m c .zs 3 ∗ got m c .fs 3) := by
  rw [k0_part11_eq_skeleton]
  unfold k0_part11_skel
  simp only [Prog.lift, Prog.bind_op, Prog.bind_ret, Prog.pure_eq_ret]
  iintro ⟨#Hrec, #Hlev, HO, H0, H1, H2⟩
  iapply (last_wait m κ c .ys 3 (at_sem (sem_ys 3) rfl _) (credit_keep _ _)) $$ [HO H0]
  · isplitr; · iexact Hrec
    isplitr; · iexact Hlev
    isplitl [HO]; · iexact HO
    iexact H0
  iintro ⟨HO, H0⟩
  iapply (last_wait m κ c .zs 3 (at_sem (sem_zs 3) rfl _) (credit_keep _ _)) $$ [HO H1]
  · isplitr; · iexact Hrec
    isplitr; · iexact Hlev
    isplitl [HO]; · iexact HO
    iexact H1
  iintro ⟨HO, H1⟩
  iapply (last_wait m κ c .fs 3 (at_sem (sem_fs_od 3 rfl) rfl _) (credit_sqO _ _)) $$ [HO H2]
  · isplitr; · iexact Hrec
    isplitr; · iexact Hlev
    isplitl [HO]; · iexact HO
    iexact H2
  iintro ⟨HO, H2⟩
  iapply wp_done
  isplitl [HO]; · iexact HO
  isplitl [H0]; · iexact H0
  isplitl [H1]; · iexact H1
  iexact H2

end Cert.KernelIdeal.Talk

end
-- ==== Proof.Body.lean ====
/-
  One point of the grid. The body, block by block, takes what a device holds before a point to what it holds before the next.
-/
module

public import proofs.«01_k».proof.Proof.Drain

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ)

/-- What a device holds within a point: the records, its two staged blocks, its cell of the handshake at rest, its chunks at
  their stages, and its debt. -/
def held (c : Dev nD) (A3 : Memref sig .tc .vmem S1x2048x8x128 .f32) (A4 : Memref sig .tc .vmem S1024x512 .f32) (X : S1x2048x8x128.Idx → Elt F .f32)
    (W : S1024x512.Idx → Elt F .f32) (σ : Fin 4 → Stage) (a b d : Nat) : sProp 𝕄 :=
  iprop(recs m κ ∗ levAts L lv ∗ (ownsTc c A3 fullShare X ∗ ownsTc c A4 fullShare W) ∗ semVal (barCell c) 0 ∗ chunks m c σ ∗ debt (F := F) c a b d)

omit [FloatOps F] in
theorem pure_pre {φ : Prop} {P Q : sProp 𝕄} (h : φ → P ⊢ Q) : iprop(⌜φ⌝ ∗ P) ⊢ Q := by
  iintro ⟨%hd, H⟩
  iapply (h hd) $$ H

/-- A piece of the run, in front of the rest. -/
theorem wp_seq (c : Dev nD) {α β : Type} {p : Prog (TpuEff nD τ sig (Elt F) Λ₀ .tc) α} {k : α → Prog (TpuEff nD τ sig (Elt F) Λ₀ .tc) β}
    {P : sProp 𝕄} {Q : β → sProp 𝕄} {Mid : α → sProp 𝕄} (h : P ⊢ WP c p Mid) :
    P ⊢ iprop((∀ a, Mid a -∗ WP c (k a) Q) -∗ WP c (p.bind k) Q) := by
  iintro HP Hk
  rw [show WP c (p.bind k) Q = _ from wp_bind frame (wpE (defs₀ (F := F)) 𝒱₀ (c : Thread nD τ) none) Set.univ p k Q]
  iapply (wp_wand_r frame (wpE (defs₀ (F := F)) 𝒱₀ (c : Thread nD τ) none) Set.univ)
  isplitl [HP]
  · iapply h; iexact HP
  iexact Hk

omit [FloatOps F] in
theorem four (Φ : Fin 4 → sProp 𝕄) : bigSep Finset.univ Φ = iprop(Φ 0 ∗ Φ 1 ∗ Φ 2 ∗ Φ 3) := by
  rw [show (Finset.univ : Finset (Fin 4)) = {0, 1, 2, 3} by decide]
  refine (bigSep_insert (by decide)).trans (congrArg (fun P => iprop(Φ 0 ∗ P)) ?_)
  refine (bigSep_insert (by decide)).trans (congrArg (fun P => iprop(Φ 1 ∗ P)) ?_)
  refine (bigSep_insert (by decide)).trans (congrArg (fun P => iprop(Φ 2 ∗ P)) ?_)
  exact bigSep_singleton ..

/-- The last waits of a chunk, -/
def waits (c : Dev nD) (i : Fin 4) : sProp 𝕄 :=
  iprop(await (F := F) c .xs i ∗ await (F := F) c .ys i ∗ await (F := F) c .zs i ∗ await (F := F) c .fs i ∗ await (F := F) c .lc i)
/-- what they give, -/
def gots (c : Dev nD) (i : Fin 4) : sProp 𝕄 := iprop(got m c .xs i ∗ got m c .ys i ∗ got m c .zs i ∗ got m c .fs i ∗ got m c .lc i)
/-- and the rest of what is held of it. -/
def kept (c : Dev nD) (i : Fin 4) : sProp 𝕄 :=
  iprop(got m c .xr i ∗ (idle (F := F) c .yr i ∗ idle (F := F) c .zr i ∗ ownsTc c (outS (qd (pf i c)) i) fullShare (keepV m (pf i c) i)) ∗ got m c .fr i)

theorem chunk_last (c : Dev nD) (i : Fin 4) : chunk m c i .s4 ⊢ iprop(waits (F := F) c i ∗ kept m c i) := by
  unfold chunk waits kept
  iintro ⟨H1, H2, ⟨H3, H4, H5⟩, H6, H7, H8⟩
  isplitl [H1 H3 H4 H5 H7]
  · isplitl [H1]; · iexact H1
    isplitl [H3]; · iexact H3
    isplitl [H4]; · iexact H4
    isplitl [H7]; · iexact H7
    iexact H5
  isplitl [H2]; · iexact H2
  isplitl [H6]; · iexact H6
  iexact H8

theorem chunk_done (c : Dev nD) (i : Fin 4) : iprop(gots m c i ∗ kept m c i) ⊢ chunk m c i .s5 := by
  unfold chunk gots kept
  iintro ⟨⟨H1, H3, H4, H7, H5⟩, ⟨H2, H6, H8⟩⟩
  isplitl [H1]; · iexact H1
  isplitl [H2]; · iexact H2
  isplitl [H3 H4 H5]
  · isplitl [H3]; · iexact H3
    isplitl [H4]; · iexact H4
    iexact H5
  isplitl [H6]; · iexact H6
  isplitl [H7]; · iexact H7
  iexact H8

/-- The chunk sent along `y`, and along `z`, as its partner receives it. -/
theorem yr_pay (c : Dev nD) (i : Fin 4) : (ownsTc (py c) (outS (qd c) i) fullShare (keepV m c i) : sProp 𝕄) ⊢ pay m .yr i (py c) := by
  show _ ⊢ (ownsTc (py c) (outS (qd (py (py c))) i) fullShare (keepV m (py (py c)) i) : sProp 𝕄)
  rw [py_py]
theorem zr_pay (c : Dev nD) (i : Fin 4) : (ownsTc (pz c) (outS (qd c) i) fullShare (keepV m c i) : sProp 𝕄) ⊢ pay m .zr i (pz c) := by
  show _ ⊢ (ownsTc (pz c) (outS (qd (pz (pz c))) i) fullShare (keepV m (pz (pz c)) i) : sProp 𝕄)
  rw [pz_pz]
theorem xr_pay (c : Dev nD) (i : Fin 4) : (ownsTc (px c) (recvS i) fullShare (sendV m c i) : sProp 𝕄) ⊢ pay m .xr i (px c) := by
  show _ ⊢ (ownsTc (px c) (recvS i) fullShare (sendV m (px (px c)) i) : sProp 𝕄)
  rw [px_px]

theorem debt_open (c : Dev nD) (a b d : Nat) : debt (F := F) c a b d ⊢ iprop(∃ W, owes (c : Thread nD τ) (owed c a b d) W) := by unfold debt; exact .rfl
theorem debt_close (c : Dev nD) (a b d : Nat) : iprop(∃ W, owes (c : Thread nD τ) (owed c a b d) W) ⊢ debt (F := F) c a b d := by unfold debt; exact .rfl

/-! ## One chunk's steps -/

/-- The first point's store into the kept slot, -/
theorem keep_one (c : Dev nD) (i : Fin 4) {X : S1x2048x8x128.Idx → Elt F .f32} {W : S1024x512.Idx → Elt F .f32} (hX : X = ob m c (cpt i 0)) (hW : W = wb m c (cpt i 0)) :
    ownsTc c (keepS i) fullShare (sqz (k0_pay3 (kSum6 (kh c) X W) (ldO (kh c) 6 X) (ldW 6 W) (ldO (kh c) 7 X) (ldW 7 W))) ⊢ keepAt m c i (0 + 1) := by
  subst hX hW
  rw [show ∀ a b d e f, k0_pay3 (F := F) a b d e f = unsq (k0_pay1 a b d e f) from fun _ _ _ _ _ => rfl, sqz_unsq]
  exact .rfl
/-- and into the sent one; -/
theorem sent_one (c : Dev nD) (i : Fin 4) {X : S1x2048x8x128.Idx → Elt F .f32} {W : S1024x512.Idx → Elt F .f32} (hX : X = ob m c (cpt i 0)) (hW : W = wb m c (cpt i 0)) :
    ownsTc c (sendS i) fullShare (sqz (k0_pay2 (sSum (sh c) X W))) ⊢ sendAt m c i (0 + 1) := by
  subst hX hW
  rw [show ∀ a, k0_pay2 (F := F) a = unsq a from fun _ => rfl, sqz_unsq]
  exact .rfl
/-- a later point's. -/
theorem keep_more (c : Dev nD) (i : Fin 4) (n : Nat) {X : S1x2048x8x128.Idx → Elt F .f32} {W : S1024x512.Idx → Elt F .f32} (hX : X = ob m c (cpt i (n + 1))) (hW : W = wb m c (cpt i (n + 1))) :
    ownsTc c (keepS i) fullShare (sqz (k0_pay5 (kSum6 (kh c) X W) (ldO (kh c) 6 X) (ldW 6 W) (ldO (kh c) 7 X) (ldW 7 W) (unsq (kAcc m c i n)))) ⊢ keepAt m c i (n + 1 + 1) := by
  subst hX hW
  exact .rfl
theorem sent_more (c : Dev nD) (i : Fin 4) (n : Nat) {X : S1x2048x8x128.Idx → Elt F .f32} {W : S1024x512.Idx → Elt F .f32} (hX : X = ob m c (cpt i (n + 1))) (hW : W = wb m c (cpt i (n + 1))) :
    ownsTc c (sendS i) fullShare (sqz (k0_pay4 (sSum (sh c) X W) (unsq (sAcc m c i n)))) ⊢ sendAt m c i (n + 1 + 1) := by
  subst hX hW
  exact .rfl

/-- A step of one chunk, among the four. -/
theorem chunks_step (c : Dev nD) {σ : Fin 4 → Stage} {i : Fin 4} {st st' : Stage} (h : σ i = st) {A B : sProp 𝕄} (hs : chunk m c i st ⊢ iprop(A ∗ (B -∗ chunk m c i st'))) :
    chunks m c σ ⊢ iprop(A ∗ (B -∗ chunks m c (Function.update σ i st'))) := by
  refine (chunks_take m c σ i h).trans ?_
  iintro ⟨H, Hback⟩
  ihave H := hs $$ H
  icases H with ⟨HA, Hk⟩
  isplitl [HA]; · iexact HA
  iintro HB
  iapply Hback
  iapply Hk
  iexact HB

theorem step_acc (c : Dev nD) (i : Fin 4) (k k' : Nat) :
    chunk m c i (.acc k) ⊢ iprop((keepAt m c i k ∗ sendAt m c i k) ∗ ((keepAt m c i k' ∗ sendAt m c i k') -∗ chunk m c i (.acc k'))) := by
  unfold chunk
  iintro ⟨H1, H2, HR⟩
  isplitl [H1 H2]
  · isplitl [H1]; · iexact H1
    iexact H2
  iintro ⟨H1, H2⟩
  isplitl [H1]; · iexact H1
  isplitl [H2]; · iexact H2
  iexact HR

theorem step_x (c : Dev nD) (i : Fin 4) :
    chunk m c i (.acc 4) ⊢ iprop((sendAt m c i 4 ∗ toX (F := F) c i) ∗ (await (F := F) c .xs i -∗ chunk m c i .s1)) := by
  unfold chunk
  iintro ⟨H1, H2, H3, HR⟩
  isplitl [H2 H3]
  · isplitl [H2]; · iexact H2
    iexact H3
  iintro H2
  isplitl [H1]; · iexact H1
  isplitl [H2]; · iexact H2
  iexact HR

theorem step_yz (c : Dev nD) (i : Fin 4) :
    chunk m c i .s1 ⊢ iprop((keepAt m c i 4 ∗ await (F := F) c .xr i ∗ toYZ (F := F) c i)
      ∗ ((got m c .xr i ∗ (await (F := F) c .ys i ∗ await (F := F) c .zs i ∗ await (F := F) c .lc i)) -∗ chunk m c i .s2)) := by
  unfold chunk
  iintro ⟨H1, H2, H3, H4, HR⟩
  isplitl [H1 H3 H4]
  · isplitl [H1]; · iexact H1
    isplitl [H3]; · iexact H3
    iexact H4
  iintro ⟨H1, H3⟩
  isplitl [H2]; · iexact H2
  isplitl [H1]; · iexact H1
  isplitl [H3]; · iexact H3
  iexact HR

theorem step_f (c : Dev nD) (i : Fin 4) :
    chunk m c i .s2 ⊢ iprop((await (F := F) c .yr i ∗ await (F := F) c .zr i ∗ toF (F := F) c i)
      ∗ (((idle (F := F) c .yr i ∗ idle (F := F) c .zr i ∗ ownsTc c (outS (qd (pf i c)) i) fullShare (keepV m (pf i c) i)) ∗ await (F := F) c .fs i)
        -∗ chunk m c i .s3)) := by
  unfold chunk
  iintro ⟨H1, H2, H3, H4, H5, H6, HR⟩
  isplitl [H4 H5 H6]
  · isplitl [H4]; · iexact H4
    isplitl [H5]; · iexact H5
    iexact H6
  iintro ⟨H4, H5⟩
  isplitl [H1]; · iexact H1
  isplitl [H2]; · iexact H2
  isplitl [H3]; · iexact H3
  isplitl [H4]; · iexact H4
  isplitl [H5]; · iexact H5
  iexact HR

theorem step_fr (c : Dev nD) (i : Fin 4) : chunk m c i .s3 ⊢ iprop(await (F := F) c .fr i ∗ (got m c .fr i -∗ chunk m c i .s4)) := by
  unfold chunk
  iintro ⟨H1, H2, H3, H4, H5, H6⟩
  isplitl [H6]; · iexact H6
  iintro H6
  isplitl [H1]; · iexact H1
  isplitl [H2]; · iexact H2
  isplitl [H3]; · iexact H3
  isplitl [H4]; · iexact H4
  isplitl [H5]; · iexact H5
  iexact H6

/-- What it holds after point `p`. -/
def after (c : Dev nD) (A3 : Memref sig .tc .vmem S1x2048x8x128 .f32) (A4 : Memref sig .tc .vmem S1024x512 .f32) (X : S1x2048x8x128.Idx → Elt F .f32)
    (W : S1024x512.Idx → Elt F .f32) (b k : Nat) : sProp 𝕄 :=
  held m κ c A3 A4 X W (stageAt (4 * b + k + 1)) (if k = 3 then b + 1 else b) (if k = 3 then b else b - 1) (if k = 3 then b - 1 else b - 2)

theorem after_next (c : Dev nD) (A3 : Memref sig .tc .vmem S1x2048x8x128 .f32) (A4 : Memref sig .tc .vmem S1024x512 .f32)
    (X : S1x2048x8x128.Idx → Elt F .f32) (W : S1024x512.Idx → Elt F .f32) (p : grid0.Coords) (hk : gk p ≠ 3) :
    held m κ c A3 A4 X W (mid1 (gb p) (gk p)) (if gk p = 3 then gb p + 1 else gb p) (gb p - 1) (gb p - 2) = after m κ c A3 A4 X W (gb p) (gk p) := by
  unfold after
  rw [if_neg hk, if_neg hk, if_neg hk, show mid1 (gb p) (gk p) = stageAt (4 * gb p + gk p + 1) from funext (at_next' (p 0) (p 1) hk)]

theorem after_last (c : Dev nD) (A3 : Memref sig .tc .vmem S1x2048x8x128 .f32) (A4 : Memref sig .tc .vmem S1024x512 .f32)
    (X : S1x2048x8x128.Idx → Elt F .f32) (W : S1024x512.Idx → Elt F .f32) (p : grid0.Coords) (hk : gk p = 3) :
    held m κ c A3 A4 X W (mid5 (gb p)) (gb p + 1) (gb p) (gb p - 1) = after m κ c A3 A4 X W (gb p) (gk p) := by
  unfold after
  rw [hk, if_pos rfl, if_pos rfl, if_pos rfl, show mid5 (gb p) = stageAt (4 * gb p + 3 + 1) from funext (at_next3' (p 0))]

omit [FloatOps F] in
theorem held_eq [FloatOps F] (c : Dev nD) (A3 : Memref sig .tc .vmem S1x2048x8x128 .f32) (A4 : Memref sig .tc .vmem S1024x512 .f32)
    (X : S1x2048x8x128.Idx → Elt F .f32) (W : S1024x512.Idx → Elt F .f32) {σ σ' : Fin 4 → Stage} {a b d a' b' d' : Nat} (hσ : σ = σ')
    (ha : a = a' ∨ 4 ≤ a ∧ 4 ≤ a') (hb : b = b' ∨ 4 ≤ b ∧ 4 ≤ b') (hd : d = d' ∨ 4 ≤ d ∧ 4 ≤ d') :
    held m κ c A3 A4 X W σ a b d = held m κ c A3 A4 X W σ' a' b' d' := by
  unfold held
  rw [hσ, debt_eq c ha hb hd]

set_option maxRecDepth 65536 in
theorem body_run (c : Dev nD) (p : grid0.Coords) (A2 : Memref sig .tc .smem S1 .i32) (h2 : A2.IsWhole) (A3 : Memref sig .tc .vmem S1x2048x8x128 .f32) (h3 : A3.IsWhole)
    (A4 : Memref sig .tc .vmem S1024x512 .f32) (h4 : A4.IsWhole) (h5 : outM.IsWhole) (h6 : keepM.IsWhole) (h7 : sendM.IsWhole) (h8 : recvM.IsWhole)
    {X : S1x2048x8x128.Idx → Elt F .f32} {W : S1024x512.Idx → Elt F .f32}
    (hX : ∀ i : Fin 4, gb p = i.val → X = ob m c (cpt i (gk p)) ∧ W = wb m c (cpt i (gk p))) :
    iprop(recs m κ ∗ levAts L lv ∗ (ownsTc c A3 fullShare X ∗ ownsTc c A4 fullShare W) ∗ closed m c (gb p) (gk p))
      ⊢ WP c (cc0_body p A2 h2 A3 h3 A4 h4 outM h5 keepM h6 sendM h7 recvM h8 cc0_scratch3 cc0_scratch4 cc0_scratch5 cc0_scratch6 cc0_scratch7
        cc0_scratch8 cc0_scratch9 cc0_scratch10 cc0_scratch11 cc0_scratch12 cc0_scratch13)
        fun _ => after m κ c A3 A4 X W (gb p) (gk p) := by
  rw [cc0_body_eq_skeleton]
  unfold cc0_body_skel
  refine wp_mid c (fun r => iprop(⌜r.2.2.1 = c⌝ ∗ held m κ c A3 A4 X W (stageAt (4 * gb p + gk p)) (gb p) (gb p - 1) (gb p - 2))) ?_ ?_
  · iintro ⟨#Hrec, #Hlev, HA, HC⟩
    ihave H := (part12_run m κ c p A2 h2 A3 h3 A4 h4 h5 h6 h7 h8) $$ [HC]
    · isplitr; · iexact Hrec
      isplitr; · iexact Hlev
      iexact HC
    iapply (wp_wand_r frame (wpE (defs₀ (F := F)) 𝒱₀ (c : Thread nD τ) none) Set.univ)
    isplitl [H]; · iexact H
    iintro %r ⟨%hr, H⟩
    isplitr; · (ipureintro; exact hr)
    unfold held opened
    icases H with ⟨H1, H2, H3⟩
    isplitr; · iexact Hrec
    isplitr; · iexact Hlev
    isplitl [HA]; · iexact HA
    isplitl [H1]; · iexact H1
    isplitl [H2]; · iexact H2
    iexact H3
  rintro ⟨arg0, arg1, d0, v2, v5, v8, v9, v11, v12, v13, v14, v16, v19, v22, v26, v27⟩
  refine pure_pre fun hd => ?_
  have hd' : d0 = c := hd
  clear hd
  subst d0
  dsimp -zeta only
  have hp0 : gb p < 7 := (p 0).isLt
  extract_lets -underBinder jp1
  have hjp1 : held m κ c A3 A4 X W (mid1 (gb p) (gk p)) (if gk p = 3 then gb p + 1 else gb p) (gb p - 1) (gb p - 2)
      ⊢ WP c (jp1 ⟨⟩) (fun _ => after m κ c A3 A4 X W (gb p) (gk p)) := by
    subst jp1
    beta_reduce
    by_cases hc6 : k0_cond6 p = 1#1
    · have hk := (cond6_iff p).mp hc6
      rw [← after_last m κ c A3 A4 X W p hk, dif_pos hc6, hk, if_pos rfl]
      extract_lets -underBinder jpA
      have hA : held m κ c A3 A4 X W (mid2 (gb p)) (gb p + 1) (gb p) (gb p - 2) ⊢ WP c (jpA ⟨⟩) (fun _ => held m κ c A3 A4 X W (mid5 (gb p)) (gb p + 1) (gb p) (gb p - 1)) := by
        subst jpA
        beta_reduce
        extract_lets -underBinder jpB
        have hB : held m κ c A3 A4 X W (mid3 (gb p)) (gb p + 1) (gb p) (gb p - 1) ⊢ WP c (jpB ⟨⟩) (fun _ => held m κ c A3 A4 X W (mid5 (gb p)) (gb p + 1) (gb p) (gb p - 1)) := by
          subst jpB
          beta_reduce
          extract_lets -underBinder jpC
          have hC : held m κ c A3 A4 X W (mid4 (gb p)) (gb p + 1) (gb p) (gb p - 1) ⊢ WP c (jpC ⟨⟩) (fun _ => held m κ c A3 A4 X W (mid5 (gb p)) (gb p + 1) (gb p) (gb p - 1)) := by
            subst jpC
            beta_reduce
            by_cases hc14 : k0_cond14 p = 1#1
            · have hb := (cond14_iff p).mp hc14
              rw [dif_pos hc14, hb]
              refine Idealize.SL.BI.BIBase.Entails.trans (Idealize.SL.BI.BIBase.Entails.of_eq (held_eq m κ c A3 A4 X W (a' := 4) (b' := 4) (d' := 4) rfl (.inr ⟨by omega, by omega⟩) (.inr ⟨by omega, by omega⟩) (.inr ⟨by omega, by omega⟩))) ?_
              rw [show held m κ c A3 A4 X W (mid5 6) (6 + 1) 6 (6 - 1) = held m κ c A3 A4 X W (fun _ => .s5) 4 4 4 from held_eq m κ c A3 A4 X W rfl (.inr ⟨by omega, by omega⟩) (.inr ⟨by omega, by omega⟩) (.inr ⟨by omega, by omega⟩)]
              rw [show mid4 6 = fun _ => .s4 from funext at_s4]
              unfold held chunks
              rw [four, four]
              iintro ⟨#Hrec, #Hlev, HA, HB, ⟨C0, C1, C2, C3⟩, HO⟩
              ihave C0 := (chunk_last m c 0) $$ C0
              unfold waits
              icases C0 with ⟨⟨a0, b0, c0, d0, e0⟩, K0⟩
              ihave C1 := (chunk_last m c 1) $$ C1
              unfold waits
              icases C1 with ⟨⟨a1, b1, c1, d1, e1⟩, K1⟩
              ihave C2 := (chunk_last m c 2) $$ C2
              unfold waits
              icases C2 with ⟨⟨a2, b2, c2, d2, e2⟩, K2⟩
              ihave C3 := (chunk_last m c 3) $$ C3
              unfold waits
              icases C3 with ⟨⟨a3, b3, c3, d3, e3⟩, K3⟩
              iapply (wp_seq c (piece6_run m κ c p A2 h2 A3 h3 A4 h4 h5 h6 h7 h8 v16 v19 hc6 hc14)) $$ [HO a0 b0 c0]
              · isplitr; · iexact Hrec
                isplitr; · iexact Hlev
                isplitl [HO]; · iexact HO
                isplitl [a0]; · iexact a0
                isplitl [b0]; · iexact b0
                iexact c0
              iintro %r6 ⟨HO, a0, b0, c0⟩
              iapply (wp_seq c (piece7_run m κ c p A2 h2 A3 h3 A4 h4 h5 h6 h7 h8 v16 hc6 hc14 _)) $$ [HO d0 e0 a1]
              · isplitr; · iexact Hrec
                isplitr; · iexact Hlev
                isplitl [HO]; · iexact HO
                isplitl [d0]; · iexact d0
                isplitl [e0]; · iexact e0
                iexact a1
              iintro %r7 ⟨HO, d0, e0, a1⟩
              iapply (wp_seq c (piece8_run m κ c p A2 h2 A3 h3 A4 h4 h5 h6 h7 h8 v16 v22 hc6 hc14)) $$ [HO b1 c1 d1]
              · isplitr; · iexact Hrec
                isplitr; · iexact Hlev
                isplitl [HO]; · iexact HO
                isplitl [b1]; · iexact b1
                isplitl [c1]; · iexact c1
                iexact d1
              iintro %r8 ⟨HO, b1, c1, d1⟩
              iapply (wp_seq c (piece9_run m κ c p A2 h2 A3 h3 A4 h4 h5 h6 h7 h8 v16 hc6 hc14)) $$ [HO e1 a2 b2 c2]
              · isplitr; · iexact Hrec
                isplitr; · iexact Hlev
                isplitl [HO]; · iexact HO
                isplitl [e1]; · iexact e1
                isplitl [a2]; · iexact a2
                isplitl [b2]; · iexact b2
                iexact c2
              iintro %r9 ⟨HO, e1, a2, b2, c2⟩
              iapply (wp_seq c (piece10_run m κ c p A2 h2 A3 h3 A4 h4 h5 h6 h7 h8 v16 v19 hc6 hc14)) $$ [HO d2 e2 a3]
              · isplitr; · iexact Hrec
                isplitr; · iexact Hlev
                isplitl [HO]; · iexact HO
                isplitl [d2]; · iexact d2
                isplitl [e2]; · iexact e2
                iexact a3
              iintro %r10 ⟨HO, d2, e2, a3⟩
              iapply (wp_seq c (piece11_run m κ c p A2 h2 A3 h3 A4 h4 h5 h6 h7 h8 v16 v22 hc6 hc14)) $$ [HO b3 c3 d3]
              · isplitr; · iexact Hrec
                isplitr; · iexact Hlev
                isplitl [HO]; · iexact HO
                isplitl [b3]; · iexact b3
                isplitl [c3]; · iexact c3
                iexact d3
              iintro %r11 ⟨HO, b3, c3, d3⟩
              simp only [Prog.lift, Prog.bind_op, Prog.bind_ret, Prog.pure_eq_ret]
              iapply (last_wait m κ c .lc 3 (at_sem (sem_lc 3) rfl _) (credit_sqO _ _)) $$ [HO e3]
              · isplitr; · iexact Hrec
                isplitr; · iexact Hlev
                isplitl [HO]; · iexact HO
                iexact e3
              iintro ⟨HO, e3⟩
              iapply wp_done
              isplitr; · iexact Hrec
              isplitr; · iexact Hlev
              isplitl [HA]; · iexact HA
              isplitl [HB]; · iexact HB
              isplitr [HO]
              · isplitl [a0 b0 c0 d0 e0 K0]
                · iapply (chunk_done m c 0)
                  unfold gots
                  isplitr [K0]
                  · isplitl [a0]; · iexact a0
                    isplitl [b0]; · iexact b0
                    isplitl [c0]; · iexact c0
                    isplitl [d0]; · iexact d0
                    iexact e0
                  iexact K0
                isplitl [a1 b1 c1 d1 e1 K1]
                · iapply (chunk_done m c 1)
                  unfold gots
                  isplitr [K1]
                  · isplitl [a1]; · iexact a1
                    isplitl [b1]; · iexact b1
                    isplitl [c1]; · iexact c1
                    isplitl [d1]; · iexact d1
                    iexact e1
                  iexact K1
                isplitl [a2 b2 c2 d2 e2 K2]
                · iapply (chunk_done m c 2)
                  unfold gots
                  isplitr [K2]
                  · isplitl [a2]; · iexact a2
                    isplitl [b2]; · iexact b2
                    isplitl [c2]; · iexact c2
                    isplitl [d2]; · iexact d2
                    iexact e2
                  iexact K2
                iapply (chunk_done m c 3)
                unfold gots
                isplitr [K3]
                · isplitl [a3]; · iexact a3
                  isplitl [b3]; · iexact b3
                  isplitl [c3]; · iexact c3
                  isplitl [d3]; · iexact d3
                  iexact e3
                iexact K3
              iexact HO
            · rw [dif_neg hc14]
              have hb := mt (cond14_iff p).mpr hc14
              rw [show mid5 (gb p) = mid4 (gb p) from if_neg hb]
              simp only [Prog.pure_eq_ret]
              exact wp_done c _ _
          clear_value jpC
          by_cases hc11 : k0_cond11 p = 1#1
          · have hb := (cond11_iff p).mp hc11
            obtain ⟨i, hi⟩ : ∃ i : Fin 4, gb p = i.val + 3 := ⟨⟨gb p - 3, by omega⟩, by show gb p = gb p - 3 + 3; omega⟩
            rw [dif_pos hc11]
            have hci : ci (gb p - 3) = i := Fin.ext (by rw [ci_val (by omega)]; omega)
            have hs := at_s3' (p 0) hb
            rw [show ci ((p 0).val - 3) = i from hci] at hs
            have hm : mid4 (gb p) = Function.update (mid3 (gb p)) i .s4 := by unfold mid4; rw [if_pos hb, hci]
            have hO : Above (lvR .fr i) (owed c (gb p + 1) (gb p) (gb p - 1)) :=
              above_owed c (by unfold lvR; dsimp only; omega) (by unfold lvR; dsimp only; omega) (by unfold lvR; dsimp only; omega)
            have e33 : k0_off33 p = ![i.val] := by rw [off33_eq p (by omega), show gb p - 3 = i.val by omega]
            have e35 : k0_off35 p = ![i.val] := by rw [off35_eq p (by omega), show gb p - 3 = i.val by omega]
            have hstep : ∀ (Q : PUnit → sProp 𝕄) (R : sProp 𝕄) (P : Prog (TpuEff nD τ sig (Elt F) Λ₀ .tc) PUnit), (iprop(recs m κ ∗ levAts L lv ∗ debt (F := F) c (gb p + 1) (gb p) (gb p - 1) ∗ await (F := F) c .fr i)
                ⊢ iprop(((debt (F := F) c (gb p + 1) (gb p) (gb p - 1) ∗ got m c .fr i) -∗ WP c (jpC ⟨⟩) Q) -∗ WP c P Q)) → (held m κ c A3 A4 X W (mid4 (gb p)) (gb p + 1) (gb p) (gb p - 1) ⊢ WP c (jpC ⟨⟩) Q)
                → (held m κ c A3 A4 X W (mid3 (gb p)) (gb p + 1) (gb p) (gb p - 1) ⊢ WP c P Q) := by
              intro Q R P hP hJ
              rw [hm] at hJ
              unfold held at hJ ⊢
              iintro ⟨#Hrec, #Hlev, HA, HB, HC, HO⟩
              ihave HC := (chunks_step m c hs (step_fr m c i)) $$ HC
              icases HC with ⟨H6, Hback⟩
              iapply hP $$ [HO H6]
              · isplitr; · iexact Hrec
                isplitr; · iexact Hlev
                isplitl [HO]; · iexact HO
                iexact H6
              iintro ⟨HO, H6⟩
              iapply hJ
              isplitr; · iexact Hrec
              isplitr; · iexact Hlev
              isplitl [HA]; · iexact HA
              isplitl [HB]; · iexact HB
              isplitr [HO]
              · iapply Hback
                iexact H6
              iexact HO
            refine hstep _ iprop(emp) _ ?_ hC
            cases he : ev i
            · have hpar : gb p % 2 = 0 := by have : i.val % 2 ≠ 0 := by (intro h; unfold ev at he; rw [h] at he; cases he)
                                             omega
              simp only [dif_neg (mt (cond12_iff p hb).mp (by omega)), dif_pos ((cond13_iff p hb).mpr hpar), Prog.lift, Prog.bind_op, Prog.bind_ret, Prog.pure_eq_ret]
              exact move_wait m κ c .fr i (at_sem (sem_fr_od i he) e35 _) (credit_sqO _ _) hO
            · have hpar : gb p % 2 = 1 := by have : i.val % 2 = 0 := by (unfold ev at he; exact eq_of_beq he)
                                             omega
              simp only [dif_pos ((cond12_iff p hb).mpr hpar), dif_neg (mt (cond13_iff p hb).mp (by omega)), Prog.lift, Prog.bind_op, Prog.bind_ret, Prog.pure_eq_ret]
              exact move_wait m κ c .fr i (at_sem (sem_fr_ev i he) e33 _) (credit_sqO _ _) hO
          · rw [dif_neg hc11]
            have hb := mt (cond11_iff p).mpr hc11
            refine Idealize.SL.BI.BIBase.Entails.trans (Idealize.SL.BI.BIBase.Entails.of_eq ?_) hC
            rw [show mid4 (gb p) = mid3 (gb p) from if_neg hb]
        clear_value jpB
        by_cases hc8 : k0_cond8 p = 1#1
        · have hb := (cond8_iff p).mp hc8
          obtain ⟨i, hi⟩ : ∃ i : Fin 4, gb p = i.val + 2 := ⟨⟨gb p - 2, by omega⟩, by show gb p = gb p - 2 + 2; omega⟩
          rw [dif_pos hc8]
          have hci : ci (gb p - 2) = i := Fin.ext (by rw [ci_val (by omega)]; omega)
          have hs := at_s2' (p 0) hb
          rw [show ci ((p 0).val - 2) = i from hci] at hs
          have hm : mid3 (gb p) = Function.update (mid2 (gb p)) i .s3 := by unfold mid3; rw [if_pos hb, hci]
          have e29 : k0_off29 p = ![i.val] := by rw [off29_eq p (by omega), show gb p - 2 = i.val by omega]
          have e31 : k0_off31 p = ![i.val] := by rw [off31_eq p (by omega), show gb p - 2 = i.val by omega]
          have ed1 : debt (F := F) c (gb p + 1) (gb p) (gb p - 2) = debt c (i.val + 3) (i.val + 2) i.val := by rw [hi]; rfl
          have ed2 : debt (F := F) c (gb p + 1) (gb p) (gb p - 1) = debt c (i.val + 3) (i.val + 2) (i.val + 1) := by rw [hi]; rfl
          rw [hm] at hB
          unfold held at hB ⊢
          rw [ed1]
          iintro ⟨#Hrec, #Hlev, HA, HB, HC, HO⟩
          ihave HC := (chunks_step m c hs (step_f m c i)) $$ HC
          icases HC with ⟨⟨Hy, Hz, HF⟩, Hback⟩
          iapply (wp_seq c (piece5_run m κ c p i hi A2 h2 A3 h3 A4 h4 h5 h6 h7 h8 arg0 v2 v5 v8 v13 v14 v19 v22 hc6 hc8)) $$ [Hy Hz HO]
          · isplitr; · iexact Hrec
            isplitr; · iexact Hlev
            isplitl [Hy]; · iexact Hy
            isplitl [Hz]; · iexact Hz
            iexact HO
          iintro %r ⟨Hy, Hz, HO⟩
          unfold got
          icases Hy with ⟨Hyi, Hy⟩
          icases Hz with ⟨Hzi, Hz⟩
          ihave HP := (pay_forward m c i) $$ [Hy Hz]
          · isplitl [Hy]; · iexact Hy
            iexact Hz
          icases HP with ⟨HP, Hd⟩
          ihave HO := (debt_open c _ _ _) $$ HO
          unfold toF
          cases he : ev i
          · have hpar : gb p % 2 = 1 := by have : i.val % 2 ≠ 0 := by (intro h; unfold ev at he; rw [h] at he; cases he)
                                           omega
            have hf : pf i c = py c := by unfold pf; rw [he]; rfl
            have ho : fo i c = pz c := by unfold fo; rw [he]; rfl
            have e32 : k0_off32 p c = outOff (qd (fo i c)) i := by rw [off32_eq p c (by omega), ho, show gb p - 2 = i.val by omega]; rfl
            simp only [dif_neg (mt (cond9_iff p hb.1).mp (by omega)), dif_pos ((cond10_iff p hb.1).mpr hpar), Prog.lift, Prog.bind_op, Prog.bind_ret, Prog.pure_eq_ret]
            iapply (move_send m κ c (pf i c) .fs .fr i (outS_of e32 _) ((dev8_eq c _).trans hf.symm) (outS_of e32 _) (congrArg SemLoc.dma (at_sem (sem_fs_od i he) e31 _))
              (congrArg SemLoc.dma (at_sem (sem_fr_od i he) e31 _)) (owed c (i.val + 3) (i.val + 2) (i.val + 1)) (owed c (i.val + 3) (i.val + 2) i.val) (owed_f c _ _ i)
              (credit_out _ _) rfl .rfl (forward_pay m c i)) $$ [HP HF HO]
            · isplitr; · iexact Hrec
              isplitl [HP]; · iexact HP
              isplitl [HF]; · iexact HF
              iexact HO
            iintro ⟨Hs, HO⟩
            iapply hB
            isplitr; · iexact Hrec
            isplitr; · iexact Hlev
            isplitl [HA]; · iexact HA
            isplitl [HB]; · iexact HB
            isplitr [HO]
            · iapply Hback
              isplitl [Hyi Hzi Hd]
              · isplitl [Hyi]; · iexact Hyi
                isplitl [Hzi]; · iexact Hzi
                iexact Hd
              iexact Hs
            rw [ed2]
            iapply (debt_close c _ _ _)
            iexact HO
          · have hpar : gb p % 2 = 0 := by have : i.val % 2 = 0 := by (unfold ev at he; exact eq_of_beq he)
                                           omega
            have hf : pf i c = pz c := by unfold pf; rw [he]; rfl
            have ho : fo i c = py c := by unfold fo; rw [he]; rfl
            have e30 : k0_off30 p c = outOff (qd (fo i c)) i := by rw [off30_eq p c (by omega), ho, show gb p - 2 = i.val by omega]; rfl
            simp only [dif_pos ((cond9_iff p hb.1).mpr hpar), dif_neg (mt (cond10_iff p hb.1).mp (by omega)), Prog.lift, Prog.bind_op, Prog.bind_ret, Prog.pure_eq_ret]
            iapply (move_send m κ c (pf i c) .fs .fr i (outS_of e30 _) ((dev7_eq c _).trans hf.symm) (outS_of e30 _) (congrArg SemLoc.dma (at_sem (sem_fs_ev i he) e29 _))
              (congrArg SemLoc.dma (at_sem (sem_fr_ev i he) e29 _)) (owed c (i.val + 3) (i.val + 2) (i.val + 1)) (owed c (i.val + 3) (i.val + 2) i.val) (owed_f c _ _ i)
              (credit_out _ _) rfl .rfl (forward_pay m c i)) $$ [HP HF HO]
            · isplitr; · iexact Hrec
              isplitl [HP]; · iexact HP
              isplitl [HF]; · iexact HF
              iexact HO
            iintro ⟨Hs, HO⟩
            iapply hB
            isplitr; · iexact Hrec
            isplitr; · iexact Hlev
            isplitl [HA]; · iexact HA
            isplitl [HB]; · iexact HB
            isplitr [HO]
            · iapply Hback
              isplitl [Hyi Hzi Hd]
              · isplitl [Hyi]; · iexact Hyi
                isplitl [Hzi]; · iexact Hzi
                iexact Hd
              iexact Hs
            rw [ed2]
            iapply (debt_close c _ _ _)
            iexact HO
        · rw [dif_neg hc8]
          have hb := mt (cond8_iff p).mpr hc8
          refine Idealize.SL.BI.BIBase.Entails.trans (Idealize.SL.BI.BIBase.Entails.of_eq ?_) hB
          exact held_eq m κ c A3 A4 X W (if_neg hb).symm (.inl rfl) (.inl rfl) (by omega)
      clear_value jpA
      by_cases hc7 : k0_cond7 p = 1#1
      · have hb := (cond7_iff p).mp hc7
        obtain ⟨i, hi⟩ : ∃ i : Fin 4, gb p = i.val + 1 := ⟨⟨gb p - 1, by omega⟩, by show gb p = gb p - 1 + 1; omega⟩
        rw [dif_pos hc7]
        have hci : ci (gb p - 1) = i := Fin.ext (by rw [ci_val (by omega)]; omega)
        have hs := at_s1' (p 0) hb
        rw [show ci ((p 0).val - 1) = i from hci] at hs
        have hm : mid2 (gb p) = Function.update (mid1 (gb p) 3) i .s2 := by unfold mid2; rw [if_pos hb, hci]
        have e21 : k0_off21 p = ![i.val] := by rw [off21_eq p (by omega), show gb p - 1 = i.val by omega]
        have e22 : k0_off22 p = slotOff i := by rw [off22_eq p (by omega), show gb p - 1 = i.val by omega]; rfl
        have e24 : k0_off24 p c = outOff (qd c) i := by rw [off24_eq p c (by omega), show gb p - 1 = i.val by omega]; rfl
        have ed1 : debt (F := F) c (gb p + 1) (gb p - 1) (gb p - 2) = debt c (i.val + 2) i.val (i.val - 1) := by
          rw [show gb p + 1 = i.val + 2 by omega, show gb p - 1 = i.val by omega, show gb p - 2 = i.val - 1 by omega]
        have ed2 : debt (F := F) c (gb p + 1) (gb p) (gb p - 2) = debt c (i.val + 2) (i.val + 1) (i.val - 1) := by
          rw [show gb p + 1 = i.val + 2 by omega, hi, show i.val + 1 - 2 = i.val - 1 by omega]
        rw [hm] at hA
        unfold held at hA ⊢
        rw [ed2] at hA
        rw [ed1]
        iintro ⟨#Hrec, #Hlev, HA, HB, HC, HO⟩
        ihave HC := (chunks_step m c hs (step_yz m c i)) $$ HC
        icases HC with ⟨⟨HK, Hx, HT⟩, Hback⟩
        iapply (wp_seq c (piece4_run m κ c p i hi A2 h2 A3 h3 A4 h4 h5 h6 h7 h8 arg0 v2 v5 v8 v12 v13 v16 hc6 hc7)) $$ [HK Hx HO]
        · isplitr; · iexact Hrec
          isplitr; · iexact Hlev
          isplitl [HK]; · iexact HK
          isplitl [Hx]; · iexact Hx
          iexact HO
        iintro %r ⟨HK, Hx, HO⟩
        ihave HK := (keep_split c i _) $$ HK
        icases HK with ⟨K1, K2, K3⟩
        ihave HO := (debt_open c _ _ _) $$ HO
        unfold toYZ
        icases HT with ⟨T1, T2, T3⟩
        simp only [Prog.lift, Prog.bind_op, Prog.bind_ret, Prog.pure_eq_ret]
        iapply (move_send m κ c (py c) .ys .yr i (keepS_of e22 _) (dev5_eq c _) (outS_of e24 _) (congrArg SemLoc.dma (at_sem (sem_ys i) e21 _))
          (congrArg SemLoc.dma (at_sem (sem_yr i) e21 _)) (owed c (i.val + 2) (i.val + 1) (i.val - 1) + tallyAt (cl (pz c) .zr i) () (amt .zr)) (owed c (i.val + 2) i.val (i.val - 1)) (owed_yz c _ i _)
          (credit_out _ _) rfl .rfl (yr_pay m c i)) $$ [K1 T1 HO]
        · isplitr; · iexact Hrec
          isplitl [K1]; · iexact K1
          isplitl [T1]; · iexact T1
          iexact HO
        iintro ⟨H1, HO⟩
        iapply (move_send m κ c (pz c) .zs .zr i (keepS_of e22 _) (dev6_eq c _) (outS_of e24 _) (congrArg SemLoc.dma (at_sem (sem_zs i) e21 _))
          (congrArg SemLoc.dma (at_sem (sem_zr i) e21 _)) (owed c (i.val + 2) (i.val + 1) (i.val - 1)) (owed c (i.val + 2) (i.val + 1) (i.val - 1) + tallyAt (cl (pz c) .zr i) () (amt .zr)) rfl
          (credit_out _ _) rfl .rfl (zr_pay m c i)) $$ [K2 T2 HO]
        · isplitr; · iexact Hrec
          isplitl [K2]; · iexact K2
          isplitl [T2]; · iexact T2
          iexact HO
        iintro ⟨H2, HO⟩
        iapply (move_local m κ c i (keepS_of e22 _) (outS_of e24 _) (congrArg SemLoc.dma (at_sem (sem_lc i) e21 _))) $$ [K3 T3]
        · isplitr; · iexact Hrec
          isplitl [K3]; · iexact K3
          iexact T3
        iintro H3
        iapply hA
        isplitr; · iexact Hrec
        isplitr; · iexact Hlev
        isplitl [HA]; · iexact HA
        isplitl [HB]; · iexact HB
        isplitr [HO]
        · iapply Hback
          isplitl [Hx]; · iexact Hx
          isplitl [H1]; · iexact H1
          isplitl [H2]; · iexact H2
          iexact H3
        iapply (debt_close c _ _ _)
        iexact HO
      · rw [dif_neg hc7]
        have hb := mt (cond7_iff p).mpr hc7
        refine Idealize.SL.BI.BIBase.Entails.trans (Idealize.SL.BI.BIBase.Entails.of_eq ?_) hA
        exact held_eq m κ c A3 A4 X W (if_neg hb).symm (.inl rfl) (by omega) (.inl rfl)
    · have hk := mt (cond6_iff p).mpr hc6
      rw [dif_neg hc6, after_next m κ c A3 A4 X W p hk]
      simp only [Prog.pure_eq_ret]
      exact wp_done c _ _
  clear_value jp1
  by_cases hc2 : k0_cond2 p = 1#1
  · have hb := (cond2_iff p).mp hc2
    obtain ⟨i, hi⟩ : ∃ i : Fin 4, gb p = i.val := ⟨⟨gb p, hb⟩, rfl⟩
    rw [dif_pos hc2]
    have hci : ci (gb p) = i := Fin.ext (by rw [ci_val (by omega)]; omega)
    have hs := at_acc' (p 0) (p 1) hb
    rw [show ci (p 0).val = i from hci, show 4 * (p 0).val + (p 1).val = 4 * gb p + gk p from rfl, show Stage.acc (p 1).val = .acc (gk p) from rfl] at hs
    have hm : mid1 (gb p) (gk p) = Function.update (stageAt (4 * gb p + gk p)) i (if gk p = 3 then .s1 else .acc (gk p + 1)) := by unfold mid1; rw [if_pos hb, hci]
    have e17 : k0_off17 p = slotOff i := by rw [k0_off17_eq, show (p 0).val = i.val from hi]; rfl
    have e18 : k0_off18 p = slotOff i := by rw [k0_off18_eq, show (p 0).val = i.val from hi]; rfl
    have e19 : k0_off19 p = ![i.val] := by rw [k0_off19_eq, show (p 0).val = i.val from hi]
    have e20 : k0_off20 p = slotOff i := by rw [k0_off20_eq, show (p 0).val = i.val from hi]; rfl
    obtain ⟨hXe, hWe⟩ := hX i hi
    have hk4 : gk p < 4 := (p 1).isLt
    unfold held at hjp1 ⊢
    by_cases hk0 : gk p = 0
    · have hs0 : stageAt (4 * gb p + gk p) i = .acc 0 := hs.trans (by rw [hk0])
      have hm0 : mid1 (gb p) (gk p) = Function.update (stageAt (4 * gb p + gk p)) i (.acc (0 + 1)) := by rw [hm, if_neg (show ¬ gk p = 3 by omega), hk0]
      rw [hm0] at hjp1
      simp -zeta only [if_neg (show ¬ gk p = 3 by omega)] at hjp1
      simp only [dif_pos ((cond3_iff p).mpr hk0), dif_neg (mt (cond4_iff p).mp (not_not.mpr hk0)), dif_neg (mt (cond5_iff p).mp (show ¬ gk p = 3 by omega)), Prog.lift, Prog.bind_op, Prog.bind_ret, Prog.pure_eq_ret]
      iintro ⟨#Hrec, #Hlev, HA, HB, HC, HO⟩
      ihave HC := (chunks_step m c hs0 (step_acc m c i 0 (0 + 1))) $$ HC
      rw [hk0] at hXe hWe
      icases HC with ⟨⟨HK, HS⟩, Hback⟩
      ihave HK := (show keepAt m c i 0 ⊢ anyS (F := F) c (keepS i) from .rfl) $$ HK
      ihave HS := (show sendAt m c i 0 ⊢ anyS (F := F) c (sendS i) from .rfl) $$ HS
      unfold anyS
      icases HK with ⟨%YK, HK⟩
      icases HS with ⟨%YS, HS⟩
      iapply (wp_seq c (part1_run c p A2 h2 A3 h3 A4 h4 h5 h6 h7 h8 v11 hc2)) $$ HA
      iintro %r1 ⟨%hr1, HA⟩
      subst hr1
      iapply (wp_seq c (part2_run c p A2 h2 A3 h3 A4 h4 h5 h6 h7 h8 v9 v11 hc2 _ _ _)) $$ HA
      iintro %r2 ⟨%hr2, HA⟩
      subst hr2
      iapply (wp_seq c (part3_run c p A2 h2 A3 h3 A4 h4 h5 h6 h7 h8 v9 hc2 _ _)) $$ HA
      iintro %r3 ⟨%hr3, ⟨HX, HW⟩⟩
      subst hr3
      iapply (load_head c (kh c) 6 (keptOff6 c)) $$ HX; iintro HX
      iapply (load_weights c 6 rfl) $$ HW; iintro HW
      iapply (load_head c (kh c) 7 (keptOff7 c)) $$ HX; iintro HX
      iapply (load_weights c 7 rfl) $$ HW; iintro HW
      iapply (load_slot c (sendS_of e17 _)) $$ HS; iintro HS
      iapply (store_slot c (sendS_of e17 _)) $$ HS; iintro HS
      iapply (load_slot c (keepS_of e17 _)) $$ HK; iintro HK
      iapply (store_slot c (keepS_of e17 _)) $$ HK; iintro HK
      iapply hjp1
      isplitr; · iexact Hrec
      isplitr; · iexact Hlev
      isplitl [HX HW]
      · isplitl [HX]; · iexact HX
        iexact HW
      isplitl [HB]; · iexact HB
      isplitr [HO]
      · iapply Hback
        isplitl [HK]
        · iapply (keep_one m c i hXe hWe)
          iexact HK
        iapply (sent_one m c i hXe hWe)
        iexact HS
      iexact HO
    · by_cases hk3 : gk p = 3
      · have hs0 : stageAt (4 * gb p + gk p) i = .acc 3 := hs.trans (by rw [hk3])
        have hm0 : mid1 (gb p) (gk p) = Function.update (stageAt (4 * gb p + gk p)) i .s1 := by rw [hm, if_pos hk3]
        rw [hm0] at hjp1
        simp -zeta only [if_pos hk3] at hjp1
        simp only [dif_neg (mt (cond3_iff p).mp hk0), dif_pos ((cond4_iff p).mpr hk0), dif_pos ((cond5_iff p).mpr hk3), Prog.lift, Prog.bind_op, Prog.bind_ret, Prog.pure_eq_ret]
        iintro ⟨#Hrec, #Hlev, HA, HB, HC, HO⟩
        ihave HC := (chunks_step m c hs0 (step_acc m c i 3 4)) $$ HC
        rw [hk3] at hXe hWe
        icases HC with ⟨⟨HK, HS⟩, Hback⟩
        ihave HK := (show keepAt m c i 3 ⊢ ownsTc c (keepS i) fullShare (kAcc m c i 2) from .rfl) $$ HK
        ihave HS := (show sendAt m c i 3 ⊢ ownsTc c (sendS i) fullShare (sAcc m c i 2) from .rfl) $$ HS
        iapply (wp_seq c (part1_run c p A2 h2 A3 h3 A4 h4 h5 h6 h7 h8 v11 hc2)) $$ HA
        iintro %r1 ⟨%hr1, HA⟩
        subst hr1
        iapply (wp_seq c (part2_run c p A2 h2 A3 h3 A4 h4 h5 h6 h7 h8 v9 v11 hc2 _ _ _)) $$ HA
        iintro %r2 ⟨%hr2, HA⟩
        subst hr2
        iapply (wp_seq c (part3_run c p A2 h2 A3 h3 A4 h4 h5 h6 h7 h8 v9 hc2 _ _)) $$ HA
        iintro %r3 ⟨%hr3, ⟨HX, HW⟩⟩
        subst hr3
        iapply (load_head c (kh c) 6 (keptOff6 c)) $$ HX; iintro HX
        iapply (load_weights c 6 rfl) $$ HW; iintro HW
        iapply (load_head c (kh c) 7 (keptOff7 c)) $$ HX; iintro HX
        iapply (load_weights c 7 rfl) $$ HW; iintro HW
        iapply (load_slot c (sendS_of e18 _)) $$ HS; iintro HS
        iapply (load_slot c (sendS_of e18 _)) $$ HS; iintro HS
        iapply (store_slot c (sendS_of e18 _)) $$ HS; iintro HS
        iapply (load_slot c (keepS_of e18 _)) $$ HK; iintro HK
        iapply (load_slot c (keepS_of e18 _)) $$ HK; iintro HK
        iapply (store_slot c (keepS_of e18 _)) $$ HK; iintro HK
        ihave HC := Hback $$ [HK HS]
        · isplitl [HK]
          · iapply (keep_more m c i 2 hXe hWe)
            iexact HK
          iapply (sent_more m c i 2 hXe hWe)
          iexact HS
        ihave HC := (chunks_step m c (Function.update_self i _ _) (step_x m c i)) $$ HC
        rw [Function.update_idem]
        icases HC with ⟨⟨HS, HT⟩, Hback⟩
        ihave HS := (show sendAt m c i 4 ⊢ ownsTc c (sendS i) fullShare (sendV m c i) from .rfl) $$ HS
        ihave HO := (show debt (F := F) c (gb p) (gb p - 1) (gb p - 2) ⊢ debt c i.val (gb p - 1) (gb p - 2) from by rw [hi]) $$ HO
        ihave HO := (debt_open c _ _ _) $$ HO
        unfold toX
        iapply (move_send m κ c (px c) .xs .xr i (sendS_of e20 _) (dev4_eq c _) (recvS_of e20 _) (congrArg SemLoc.dma (at_sem (sem_xs i) e19 _))
          (congrArg SemLoc.dma (at_sem (sem_xr i) e19 _)) (owed c (i.val + 1) (gb p - 1) (gb p - 2)) (owed c i.val (gb p - 1) (gb p - 2)) (owed_x c i _ _)
          (credit_recv _) rfl .rfl (xr_pay m c i)) $$ [HS HT HO]
        · isplitr; · iexact Hrec
          isplitl [HS]; · iexact HS
          isplitl [HT]; · iexact HT
          iexact HO
        iintro ⟨HS, HO⟩
        iapply hjp1
        isplitr; · iexact Hrec
        isplitr; · iexact Hlev
        isplitl [HX HW]
        · isplitl [HX]; · iexact HX
          iexact HW
        isplitl [HB]; · iexact HB
        isplitr [HO]
        · iapply Hback
          iexact HS
        iapply (show debt (F := F) c (i.val + 1) (gb p - 1) (gb p - 2) ⊢ debt c (gb p + 1) (gb p - 1) (gb p - 2) from by rw [hi])
        iapply (debt_close c _ _ _)
        iexact HO
      · obtain ⟨n, hn⟩ : ∃ n, gk p = n + 1 := ⟨gk p - 1, by omega⟩
        have hs0 : stageAt (4 * gb p + gk p) i = .acc (n + 1) := hs.trans (by rw [hn])
        have hm0 : mid1 (gb p) (gk p) = Function.update (stageAt (4 * gb p + gk p)) i (.acc (n + 1 + 1)) := by rw [hm, if_neg hk3, hn]
        rw [hm0] at hjp1
        simp -zeta only [if_neg hk3] at hjp1
        simp only [dif_neg (mt (cond3_iff p).mp hk0), dif_pos ((cond4_iff p).mpr hk0), dif_neg (mt (cond5_iff p).mp hk3), Prog.lift, Prog.bind_op, Prog.bind_ret, Prog.pure_eq_ret]
        iintro ⟨#Hrec, #Hlev, HA, HB, HC, HO⟩
        ihave HC := (chunks_step m c hs0 (step_acc m c i (n + 1) (n + 1 + 1))) $$ HC
        rw [hn] at hXe hWe
        icases HC with ⟨⟨HK, HS⟩, Hback⟩
        ihave HK := (show keepAt m c i (n + 1) ⊢ ownsTc c (keepS i) fullShare (kAcc m c i n) from .rfl) $$ HK
        ihave HS := (show sendAt m c i (n + 1) ⊢ ownsTc c (sendS i) fullShare (sAcc m c i n) from .rfl) $$ HS
        iapply (wp_seq c (part1_run c p A2 h2 A3 h3 A4 h4 h5 h6 h7 h8 v11 hc2)) $$ HA
        iintro %r1 ⟨%hr1, HA⟩
        subst hr1
        iapply (wp_seq c (part2_run c p A2 h2 A3 h3 A4 h4 h5 h6 h7 h8 v9 v11 hc2 _ _ _)) $$ HA
        iintro %r2 ⟨%hr2, HA⟩
        subst hr2
        iapply (wp_seq c (part3_run c p A2 h2 A3 h3 A4 h4 h5 h6 h7 h8 v9 hc2 _ _)) $$ HA
        iintro %r3 ⟨%hr3, ⟨HX, HW⟩⟩
        subst hr3
        iapply (load_head c (kh c) 6 (keptOff6 c)) $$ HX; iintro HX
        iapply (load_weights c 6 rfl) $$ HW; iintro HW
        iapply (load_head c (kh c) 7 (keptOff7 c)) $$ HX; iintro HX
        iapply (load_weights c 7 rfl) $$ HW; iintro HW
        iapply (load_slot c (sendS_of e18 _)) $$ HS; iintro HS
        iapply (load_slot c (sendS_of e18 _)) $$ HS; iintro HS
        iapply (store_slot c (sendS_of e18 _)) $$ HS; iintro HS
        iapply (load_slot c (keepS_of e18 _)) $$ HK; iintro HK
        iapply (load_slot c (keepS_of e18 _)) $$ HK; iintro HK
        iapply (store_slot c (keepS_of e18 _)) $$ HK; iintro HK
        iapply hjp1
        isplitr; · iexact Hrec
        isplitr; · iexact Hlev
        isplitl [HX HW]
        · isplitl [HX]; · iexact HX
          iexact HW
        isplitl [HB]; · iexact HB
        isplitr [HO]
        · iapply Hback
          isplitl [HK]
          · iapply (keep_more m c i n hXe hWe)
            iexact HK
          iapply (sent_more m c i n hXe hWe)
          iexact HS
        iexact HO
  · rw [dif_neg hc2]
    refine Idealize.SL.BI.BIBase.Entails.trans (Idealize.SL.BI.BIBase.Entails.of_eq ?_) hjp1
    have hb := mt (cond2_iff p).mpr hc2
    refine held_eq m κ c A3 A4 X W ?_ ?_ (.inl rfl) (.inl rfl)
    · unfold mid1; rw [if_neg hb]
    · split
      · exact .inr ⟨by omega, by omega⟩
      · exact .inl rfl

end Cert.KernelIdeal.Talk

end
-- ==== Proof.Pipe.lean ====
/-
  The pipeline's data: what the two staged windows hold at each grid point, what is owed before it, and the invariant that links
  the points; with the body's run this is the pipeline's obligation.
-/
module

public import proofs.«01_k».proof.Proof.Body
public import Idealize.ShloMosaic.Lib.Pipeline.Regions
public import Idealize.ShloMosaic.Lib.Pipeline.Cells

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ UU ℕ

/-- The call's pipeline on device `c`, at that device's table. -/
abbrev cfgc (c : Dev nD) : Pipeline.Cfg sig Λ₀ := Pipeline.pinD (pcfgs (F := F)) adm c 0

/-- The staging semaphores of different windows, slots and devices are different cells. -/
theorem cells_inj : Function.Injective (Pipeline.PerCore.cellOf (nD := nD) (τ := τ) (Pipeline.pinD (pcfgs (F := F)) adm)) := by
  rintro ⟨p, c, w, s⟩ ⟨p', c', w', s'⟩ h
  obtain rfl : p = p' := Subsingleton.elim _ _
  obtain rfl : c = c' := congrArg (fun g : GSem nD τ sig => g.1.1) h
  have h' := cellOf_inj (F := F) (adm c) (a₁ := ⟨p, c, w, s⟩) (a₂ := ⟨p, c, w', s'⟩) h
  rw [Sigma.mk.injEq] at h'
  have h2 := eq_of_heq h'.2
  rw [Sigma.mk.injEq] at h2
  have h3 := eq_of_heq h2.2
  exact congrArg (fun z => (⟨p, ⟨c, z⟩⟩ : Pipeline.PerCore.CellKey (nD := nD) (Pipeline.pinD (pcfgs (F := F)) adm))) h3

/-! ## The points -/

theorem gb_val : ∀ t : Fin grid0.N, gb (grid0.coords t) = t.val / 4 := by decide +kernel
theorem gk_val : ∀ t : Fin grid0.N, gk (grid0.coords t) = t.val % 4 := by decide +kernel

theorem transform_0 : ∀ p : grid0.Coords, cc0_transform_0 p = ![0, 0, gk p, 0] := by decide +kernel

theorem fetch_0 (c : Dev nD) (t : Fin grid0.N) : ((cfgc (F := F) c).win 0).fetch t = true := by
  unfold Pipeline.Window.fetch
  rw [Bool.and_eq_true, Bool.or_eq_true]
  refine ⟨rfl, ?_⟩
  by_cases h0 : t.val = 0
  · exact Or.inl (decide_eq_true h0)
  · refine Or.inr (decide_eq_true ⟨Nat.pos_of_ne_zero h0, fun e => ?_⟩)
    have e' : cc0_transform_0 (grid0.coords t) = cc0_transform_0 (grid0.coords ⟨t.val - 1, by have := t.isLt; omega⟩) := e
    rw [transform_0, transform_0] at e'
    have e0 : gk (grid0.coords t) = gk (grid0.coords ⟨t.val - 1, by have := t.isLt; omega⟩) := congrFun e' 2
    rw [gk_val, gk_val] at e0
    dsimp only at e0
    omega
theorem fetch_1 (c : Dev nD) (t : Fin grid0.N) : ((cfgc (F := F) c).win 1).fetch t = true := by
  unfold Pipeline.Window.fetch
  rw [Bool.and_eq_true, Bool.or_eq_true]
  refine ⟨rfl, ?_⟩
  by_cases h0 : t.val = 0
  · exact Or.inl (decide_eq_true h0)
  · refine Or.inr (decide_eq_true ⟨Nat.pos_of_ne_zero h0, fun e => ?_⟩)
    have e' : cc0_transform_1 inb_S1_S1_0 numel1_S1 (tab (F := F) c) (grid0.coords t)
        = cc0_transform_1 inb_S1_S1_0 numel1_S1 (tab (F := F) c) (grid0.coords ⟨t.val - 1, by have := t.isLt; omega⟩) := e
    rw [transform_tab, transform_tab] at e'
    have e0 : gk (grid0.coords t) = gk (grid0.coords ⟨t.val - 1, by have := t.isLt; omega⟩) := congrFun e' 0
    rw [gk_val, gk_val] at e0
    dsimp only at e0
    omega

/-! ## What is owed, and the invariant -/

variable (m : (ℓ : Loc nD τ sig) → Buf (Elt F) ℓ)

/-- What device `c` owes before point `n`. -/
def owedAt (c : Dev nD) (n : Nat) : CellTallies nD τ sig Unit := if n = 0 then O₀ c else owed c (n / 4) (n / 4 - 1) (n / 4 - 2)

/-- The semaphores no transfer uses, at zero. -/
def idles (c : Dev nD) : sProp 𝕄 := bigSep Finset.univ fun p : Bool × Fin 4 => semVal ((c : Thread nD τ), .dma (idleSem p.1 p.2)) 0

/-- Where device `c` stands before point `n`. -/
def stand (c : Dev nD) (n : Nat) : sProp 𝕄 :=
  if n = 0 then start (F := F) c else iprop(semVal (barCell c) 0 ∗ chunks m c (stageAt n))

/-- The invariant before point `n`. -/
def Inv (c : Dev nD) (n : Nat) : sProp 𝕄 := iprop((∃ κ, recs m κ) ∗ levAts L lv ∗ idles (F := F) c ∗ stand m c n)

/-- The data of device `c`'s pipeline. -/
def dat0 (c : Dev nD) : Dat τ (Elt F) Unit ℕ UU ℕ (cfgc (F := F) c) c where
  A := fun | 0 => m ((c : Thread nD τ).loc main_arg0) | 1 => m ((c : Thread nD τ).loc main_arg1) | ⟨_ + 2, h⟩ => absurd h (Nat.not_lt.2 (Nat.le_add_left _ _))
  after := fun | 0 => ob m c | 1 => wb m c | ⟨_ + 2, h⟩ => absurd h (Nat.not_lt.2 (Nat.le_add_left _ _))
  Φ t := Inv m c t.val
  q _ := fullShare
  owed t := owedAt c t.val

def dats : (p : Fin 1) → (c : Dev nD) → Dat τ (Elt F) Unit ℕ UU ℕ (Pipeline.pinD (pcfgs (F := F)) adm c p) c
  | 0 => dat0 m
  | ⟨_ + 1, h⟩ => absurd h (Nat.not_lt.2 (Nat.le_add_left _ _))

theorem before_0 (c : Dev nD) (t : Fin grid0.N) (d) : (dat0 m c).before 0 t d = ob m c t := by
  unfold Dat.before
  rw [if_pos (fetch_0 c t)]
  rfl
theorem before_1 (c : Dev nD) (t : Fin grid0.N) (d) : (dat0 m c).before 1 t d = wb m c t := by
  unfold Dat.before
  rw [if_pos (fetch_1 c t)]
  rfl

theorem owes_in (c : Dev nD) (t : Fin (grid0.N + 1)) (O : CellTallies nD τ sig Unit) (h0 : owedAt c t.val = O) :
    iprop(∃ W, owes (c : Thread nD τ) O W) ⊢ ((dat0 m c).owesAt () t : sProp 𝕄) := by
  unfold Dat.owesAt Pipeline.owesWithin
  rw [show (dat0 m c).owed t = O from h0]
  iintro ⟨%W, HO⟩; iexists W; isplitr; · ipureintro; exact fun _ _ => Or.inl trivial
  iexact HO
theorem owes_out (c : Dev nD) (t : Fin (grid0.N + 1)) (O : CellTallies nD τ sig Unit) (h0 : owedAt c t.val = O) :
    ((dat0 m c).owesAt () t : sProp 𝕄) ⊢ iprop(∃ W, owes (c : Thread nD τ) O W) := by
  unfold Dat.owesAt Pipeline.owesWithin
  rw [show (dat0 m c).owed t = O from h0]
  iintro ⟨%W, -, HO⟩; iexists W; iexact HO

/-- Before a point: the invariant and the debt are what the body starts from. -/
theorem point_in (c : Dev nD) (t : Fin grid0.N) :
    iprop(stand m c t.val ∗ (dat0 m c).owesAt () t.castSucc) ⊢ closed m c (gb (grid0.coords t)) (gk (grid0.coords t)) := by
  rw [gb_val, gk_val]
  unfold stand closed
  by_cases h : t.val = 0
  · rw [if_pos h, if_pos (by omega)]
    iintro ⟨H, HO⟩
    isplitl [H]; · iexact H
    iapply (owes_out m c t.castSucc (O₀ c) (if_pos h)); iexact HO
  · rw [if_neg h, if_neg (by omega)]
    unfold opened
    rw [show 4 * (t.val / 4) + t.val % 4 = t.val by omega]
    iintro ⟨⟨H1, H2⟩, HO⟩
    isplitl [H1]; · iexact H1
    isplitl [H2]; · iexact H2
    iapply (debt_close c (t.val / 4) (t.val / 4 - 1) (t.val / 4 - 2))
    iapply (owes_out m c t.castSucc _ (if_neg h)); iexact HO

theorem point_out (c : Dev nD) (t : Fin grid0.N) {A3 : Memref sig .tc .vmem S1x2048x8x128 .f32} {A4 : Memref sig .tc .vmem S1024x512 .f32}
    {X : S1x2048x8x128.Idx → Elt F .f32} {W : S1024x512.Idx → Elt F .f32} (κ : GSem nD τ sig → ℕ) :
    after m κ c A3 A4 X W (gb (grid0.coords t)) (gk (grid0.coords t))
      ⊢ iprop((ownsTc c A3 fullShare X ∗ ownsTc c A4 fullShare W) ∗ stand m c (t.val + 1) ∗ (dat0 m c).owesAt () t.succ) := by
  rw [gb_val, gk_val]
  unfold after held stand
  rw [if_neg (Nat.succ_ne_zero _), show 4 * (t.val / 4) + t.val % 4 + 1 = t.val + 1 by omega]
  iintro ⟨-, -, HX, H1, H2, HD⟩
  isplitl [HX]; · iexact HX
  isplitl [H1 H2]
  · isplitl [H1]; · iexact H1
    iexact H2
  ihave HO := (debt_open _ _ _ _) $$ HD
  have e : owedAt c t.succ.val = owed c (if t.val % 4 = 3 then t.val / 4 + 1 else t.val / 4) (if t.val % 4 = 3 then t.val / 4 else t.val / 4 - 1)
      (if t.val % 4 = 3 then t.val / 4 - 1 else t.val / 4 - 2) := by
    unfold owedAt
    rw [Fin.val_succ, if_neg (Nat.succ_ne_zero _)]
    by_cases h : t.val % 4 = 3
    · simp only [if_pos h]; congr 1 <;> omega
    · simp only [if_neg h]; congr 1 <;> omega
  iapply (owes_in m c t.succ _ e); iexact HO

/-- The pipeline's obligation: one point's run from the invariant to the next. -/
theorem body_obligation (c : Dev nD) : BodyObligation (dat0 m c) (defs₀ (F := F)) 𝒱₀ () Set.univ := fun t => by
  rw [bigSep_W0, bigSep_W0]
  show iprop(Inv m c t.val ∗ (dat0 m c).owesAt () t.castSucc
      ∗ (∃ d, ownsTc c (spec0_0.stage ((cfgc (F := F) c).slots t 0)) fullShare ((dat0 m c).before 0 t d))
      ∗ (∃ d, ownsTc c (spec0_1.stage ((cfgc (F := F) c).slots t 1)) fullShare ((dat0 m c).before 1 t d)))
    ⊢ WP c (cc0_body (grid0.coords t) (Memref.whole main_v11) (Memref.isWhole_whole _) (spec0_0.stage ((cfgc (F := F) c).slots t 0)) _ (spec0_1.stage ((cfgc (F := F) c).slots t 1)) _
        outM _ keepM _ sendM _ recvM _ cc0_scratch3 cc0_scratch4 cc0_scratch5 cc0_scratch6 cc0_scratch7
        cc0_scratch8 cc0_scratch9 cc0_scratch10 cc0_scratch11 cc0_scratch12 cc0_scratch13)
      fun _ => iprop(Inv m c (t.val + 1) ∗ (dat0 m c).owesAt () t.succ
        ∗ ownsTc c (spec0_0.stage ((cfgc (F := F) c).slots t 0)) fullShare (ob m c t)
        ∗ ownsTc c (spec0_1.stage ((cfgc (F := F) c).slots t 1)) fullShare (wb m c t))
  unfold Inv
  iintro ⟨⟨⟨%κ, #HR⟩, #HL, HI, HS⟩, HO, ⟨%d0, H0⟩, ⟨%d1, H1⟩⟩
  rw [before_0, before_1]
  iapply (wp_wand_r frame (wpE (defs₀ (F := F)) 𝒱₀ (c : Thread nD τ) none) Set.univ)
  isplitl [HS HO H0 H1]
  · iapply (body_run m κ c (grid0.coords t) _ _ _ _ _ _ _ _ _ _ (X := ob m c t) (W := wb m c t) fun i hi => by
      have e : cpt i (gk (grid0.coords t)) = t := by
        rw [gb_val] at hi
        rw [gk_val]
        refine Fin.ext ?_
        show 4 * i.val + t.val % 4 % 4 = t.val
        omega
      rw [e]; exact ⟨rfl, rfl⟩)
    isplitr; · iexact HR
    isplitr; · iexact HL
    isplitl [H0 H1]
    · isplitl [H0]; · iexact H0
      iexact H1
    iapply (point_in m c t)
    isplitl [HS]; · iexact HS
    iexact HO
  iintro %_ HA
  ihave HB := (point_out m c t κ) $$ HA
  icases HB with ⟨⟨H0, H1⟩, HS, HO⟩
  isplitl [HI HS]
  · isplitr; · iexists κ; iexact HR
    isplitr; · iexact HL
    isplitl [HI]; · iexact HI
    iexact HS
  isplitl [HO]; · iexact HO
  isplitl [H0]; · iexact H0
  iexact H1

end Cert.KernelIdeal.Talk

end
-- ==== Proof.Whole.lean ====
/-
  Whole buffers and their slots. A scratch buffer is its four slots, and a device's result is its sixteen, one for each chunk of
  each quarter; the buffers split into slots before the pipeline runs and are put together again after it, the result at the
  contents the slots then have.
-/
module

public import proofs.«01_k».proof.Proof.Pipe
public import Idealize.ShloMosaic.Lib.Ring

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has a value. -/
theorem elt_nonempty : ∀ e : EltTy, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨FloatOps.ofBits (F := F) .fp8e4m3 0⟩ | .fp8e5m2 => ⟨FloatOps.ofBits (F := F) .fp8e5m2 0⟩
  | .bf16 => ⟨FloatOps.ofBits (F := F) .bf16 0⟩ | .f16 => ⟨FloatOps.ofBits (F := F) .f16 0⟩ | .f32 => ⟨FloatOps.ofBits (F := F) .f32 0⟩
instance elt_inst : ∀ e : EltTy, Nonempty (Elt F e) := elt_nonempty
instance blk_inst : Nonempty (Blk F) := ⟨fun _ => Classical.choice (elt_nonempty .f32)⟩

/-! ## A squeezed slice -/

theorem owns_squeeze (c : Dev nD) {sp : Space} (M : Memref sig .tc sp S1x1024x512 .f32) {B : Blk F} :
    (ownsTc c (M.squeeze S1024x512 squeezes_S1x1024x512_S1024x512) fullShare B : sProp 𝕄) ⊢ ownsTc c M fullShare (unsq B) := by
  unfold ownsTc owns
  iintro ⟨%f, %hf, H⟩
  iexists f
  isplitr
  · ipureintro
    rw [← hf]
    exact (unsq_sqz _).symm
  have e : (M.squeeze S1024x512 squeezes_S1x1024x512_S1024x512).view.set = M.view.set := View.set_reshape _ _
  rw [e]
  iexact H

omit [FloatOps F] in
theorem squeeze_owns (c : Dev nD) {sp : Space} (M : Memref sig .tc sp S1x1024x512 .f32) {v : S1x1024x512.Idx → Elt F .f32} :
    (ownsTc c M fullShare v : sProp 𝕄) ⊢ ownsTc c (M.squeeze S1024x512 squeezes_S1x1024x512_S1024x512) fullShare (sqz v) := by
  unfold ownsTc owns
  iintro ⟨%f, %hf, H⟩
  iexists f
  isplitr
  · ipureintro
    rw [← hf]
    rfl
  have e : (M.squeeze S1024x512 squeezes_S1x1024x512_S1024x512).view.set = M.view.set := View.set_reshape _ _
  rw [e]
  iexact H

theorem anyS_of (c : Dev nD) {sp : Space} (M : Memref sig .tc sp S1x1024x512 .f32) (v : S1x1024x512.Idx → Elt F .f32) :
    (ownsTc c M fullShare v : sProp 𝕄) ⊢ anyS (F := F) c (M.squeeze S1024x512 squeezes_S1x1024x512_S1024x512) := by
  iintro H
  iexists _
  iapply (squeeze_owns c M)
  iexact H

/-! ## A scratch buffer -/

/-- Row `i` of a scratch buffer. -/
abbrev slotR (i : Fin 4) : Rect S4x1024x512 := Rect.unit (s := S4x1024x512) (slotOff i) S1x1024x512.size (slotOff_inb i)

theorem slotR_disj (i j : Fin 4) (h : i ≠ j) : Disjoint (slotR i).set (slotR j).set :=
  Ring.lead_disjoint (s := S4x1024x512) 0 1 slotOff S1x1024x512.size slotOff_inb (by decide) rfl i j h
theorem slotR_cover : (Finset.univ : Finset (Fin 4)).biUnion (fun i => (slotR i).set) = Finset.univ :=
  Ring.lead_cover (s := S4x1024x512) 0 1 slotOff S1x1024x512.size slotOff_inb (by decide) (by decide) rfl (by decide) (by decide)

/-- A scratch buffer's slots, held at anything, -/
theorem slots_of (c : Dev nD) (M : Memref sig .tc .vmem S4x1024x512 .f32) (X : S4x1024x512.Idx → Elt F .f32) :
    (ownsTc c M fullShare X : sProp 𝕄) ⊢ bigSep Finset.univ fun i : Fin 4 => anyS (F := F) c (sqV M (slotOff i) (slotOff_inb i)) := by
  refine (owns_rects (c : Thread nD τ) M fullShare slotR (fun _ _ => rfl) slotR_disj slotR_cover X).trans (bigSep_mono fun i _ => anyS_of c _ _)

/-- and back. -/
theorem of_slots (c : Dev nD) (M : Memref sig .tc .vmem S4x1024x512 .f32) :
    (bigSep Finset.univ fun i : Fin 4 => anyS (F := F) c (sqV M (slotOff i) (slotOff_inb i))) ⊢ (iprop(∃ X, ownsTc c M fullShare X) : sProp 𝕄) := by
  refine (bigSep_exists_pi (Y := fun _ : Fin 4 => Blk F) Finset.univ _).trans ?_
  iintro ⟨%X, H⟩
  iexists Rect.glue slotR slotR_cover fun i => unsq (X i)
  have h : ∀ i : Fin 4, (ownsTc c (sqV M (slotOff i) (slotOff_inb i)) fullShare (X i) : sProp 𝕄)
      ⊢ owns (c : Thread nD τ) (M.slice (slotR i) (fun _ => rfl)) fullShare fun j =>
          Rect.glue slotR slotR_cover (fun i => unsq (X i)) ((slotR i).emb j) := fun i => by
    simp only [Rect.glue_emb slotR slotR_cover slotR_disj]
    exact owns_squeeze c (M.slice (slotR i) (fun _ => rfl))
  have h' : (bigSep Finset.univ fun i : Fin 4 => ownsTc c (sqV M (slotOff i) (slotOff_inb i)) fullShare (X i))
      ⊢ (ownsTc c M fullShare (Rect.glue slotR slotR_cover fun i => unsq (X i)) : sProp 𝕄) :=
    (bigSep_mono fun i _ => h i).trans (owns_of_rects (c : Thread nD τ) M fullShare slotR (fun _ _ => rfl) slotR_disj slotR_cover _)
  iapply h'
  iexact H

/-! ## The result -/

/-- The place of chunk `t.2` of quarter `t.1`. -/
abbrev outR (t : Fin 4 × Fin 4) : Rect S1x1024x8192 := Rect.unit (s := S1x1024x8192) (outOff t.1 t.2) S1x1024x512.size (outOff_inb t.1 t.2)

theorem outR_disj (t t' : Fin 4 × Fin 4) (h : t ≠ t') : Disjoint (outR t).set (outR t').set := by
  rw [Finset.disjoint_left]
  intro i hi hi'
  have h1 := (Rect.mem_set_unit.mp hi) 2
  have h2 := (Rect.mem_set_unit.mp hi') 2
  have e1 : outOff t.1 t.2 2 = 2048 * t.1.val + 512 * t.2.val := rfl
  have e2 : outOff t'.1 t'.2 2 = 2048 * t'.1.val + 512 * t'.2.val := rfl
  have e3 : S1x1024x512.size 2 = 512 := rfl
  rw [e1, e3] at h1
  rw [e2, e3] at h2
  apply h
  have := t.1.isLt; have := t.2.isLt; have := t'.1.isLt; have := t'.2.isLt
  exact Prod.ext (Fin.ext (by omega)) (Fin.ext (by omega))

theorem outR_cover : (Finset.univ : Finset (Fin 4 × Fin 4)).biUnion (fun t => (outR t).set) = Finset.univ := by
  ext i
  simp only [Finset.mem_biUnion, Finset.mem_univ, true_and, iff_true]
  have h2 : (i 2).val < 8192 := (i 2).isLt
  have h1 : (i 1).val < 1024 := (i 1).isLt
  have h0 : (i 0).val < 1 := (i 0).isLt
  refine ⟨(⟨(i 2).val / 2048, by omega⟩, ⟨(i 2).val % 2048 / 512, by omega⟩), Rect.mem_set_unit.mpr fun a => ?_⟩
  match a with
  | 0 => exact ⟨Nat.zero_le _, h0⟩
  | 1 => exact ⟨Nat.zero_le _, by show (i 1).val < 0 + 1024; omega⟩
  | 2 =>
    have e1 : ∀ q j : Fin 4, outOff q j 2 = 2048 * q.val + 512 * j.val := fun _ _ => rfl
    have e3 : S1x1024x512.size 2 = 512 := rfl
    rw [e1, e3]
    dsimp only
    omega

/-- The result's sixteen slots, held at anything. -/
theorem outs_of (c : Dev nD) (X : S1x1024x8192.Idx → Elt F .f32) :
    (ownsTc c outM fullShare X : sProp 𝕄) ⊢ bigSep Finset.univ fun t : Fin 4 × Fin 4 => anyS (F := F) c (outS t.1 t.2) := by
  refine (owns_rects (c : Thread nD τ) outM fullShare outR (fun _ _ => rfl) outR_disj outR_cover X).trans (bigSep_mono fun i _ => anyS_of c _ _)

/-- The device of `c`'s half that computes quarter `q`. -/
def dv (c : Dev nD) (q : Fin 4) : Dev nD := ⟨4 * (c.val / 4) + q.val, by have := c.isLt; have := q.isLt; have : nD = 8 := rfl; omega⟩

variable (m : (ℓ : Loc nD τ sig) → Buf (Elt F) ℓ)

/-- What a device's result holds at the end: every chunk of every quarter, from the device that computes it. -/
def final (c : Dev nD) : S1x1024x8192.Idx → Elt F .f32 := Rect.glue outR outR_cover fun t => unsq (keepV m (dv c t.1) t.2)

/-- The sixteen slots at their contents are the result at its own. -/
theorem of_outs (c : Dev nD) :
    (bigSep Finset.univ fun t : Fin 4 × Fin 4 => ownsTc c (outS t.1 t.2) fullShare (keepV m (dv c t.1) t.2)) ⊢ (ownsTc c outM fullShare (final m c) : sProp 𝕄) := by
  unfold final
  have h : ∀ t : Fin 4 × Fin 4, (ownsTc c (outS t.1 t.2) fullShare (keepV m (dv c t.1) t.2) : sProp 𝕄)
      ⊢ owns (c : Thread nD τ) (outM.slice (outR t) (fun _ => rfl)) fullShare fun j =>
          Rect.glue outR outR_cover (fun t => unsq (keepV m (dv c t.1) t.2)) ((outR t).emb j) := fun t => by
    simp only [Rect.glue_emb outR outR_cover outR_disj]
    exact owns_squeeze c (outM.slice (outR t) (fun _ => rfl))
  exact (bigSep_mono fun t _ => h t).trans (owns_of_rects (c : Thread nD τ) outM fullShare outR (fun _ _ => rfl) outR_disj outR_cover _)

/-! ## The four quarters, by the device each comes from -/

theorem quarters : ∀ c : Dev nD, (Finset.univ : Finset (Fin 4)) = insert (qd c) (insert (qd (py c)) (insert (qd (pz c)) ({qd (pd c)} : Finset (Fin 4)))) := by decide
theorem quarter_ne : ∀ c : Dev nD, qd c ∉ insert (qd (py c)) (insert (qd (pz c)) ({qd (pd c)} : Finset (Fin 4)))
    ∧ qd (py c) ∉ insert (qd (pz c)) ({qd (pd c)} : Finset (Fin 4))
    ∧ qd (pz c) ∉ ({qd (pd c)} : Finset (Fin 4)) := by decide
theorem dv_qd : ∀ c : Dev nD, dv c (qd c) = c ∧ dv c (qd (py c)) = py c ∧ dv c (qd (pz c)) = pz c ∧ dv c (qd (pd c)) = pd c := by decide

omit [FloatOps F] in
theorem four_quarters (c : Dev nD) (Φ : Fin 4 → sProp 𝕄) :
    bigSep Finset.univ Φ = iprop(Φ (qd c) ∗ Φ (qd (py c)) ∗ Φ (qd (pz c)) ∗ Φ (qd (pd c))) := by
  obtain ⟨h1, h2, h3⟩ := quarter_ne c
  rw [quarters c, bigSep_insert h1, bigSep_insert h2, bigSep_insert h3, bigSep_singleton]
  rfl

/-- A chunk of the result from each of its four devices. -/
def outsAt (c : Dev nD) (i : Fin 4) : sProp 𝕄 :=
  bigSep Finset.univ fun q : Fin 4 => ownsTc c (outS q i) fullShare (keepV m (dv c q) i)

theorem outsAt_of (c : Dev nD) (i : Fin 4) :
    iprop(ownsTc c (outS (qd c) i) fullShare (keepV m c i) ∗ ownsTc c (outS (qd (pf i c)) i) fullShare (keepV m (pf i c) i)
        ∗ ownsTc c (outS (qd (fo i c)) i) fullShare (keepV m (fo i c) i) ∗ ownsTc c (outS (qd (pd c)) i) fullShare (keepV m (pd c) i))
      ⊢ outsAt m c i := by
  unfold outsAt
  rw [four_quarters c]
  obtain ⟨d1, d2, d3, d4⟩ := dv_qd c
  rw [d1, d2, d3, d4]
  cases h : ev i
  · have e1 : fo i c = pz c := by unfold fo; rw [h]; rfl
    have e2 : pf i c = py c := by unfold pf; rw [h]; rfl
    rw [e1, e2]
  · have e1 : fo i c = py c := by unfold fo; rw [h]; rfl
    have e2 : pf i c = pz c := by unfold pf; rw [h]; rfl
    rw [e1, e2]
    iintro ⟨H1, H2, H3, H4⟩
    isplitl [H1]; · iexact H1
    isplitl [H3]; · iexact H3
    isplitl [H2]; · iexact H2
    iexact H4

omit [FloatOps F] in
theorem keep_join (c : Dev nD) (i : Fin 4) (X : Blk F) :
    iprop(ownsTc c (keepS i) qy X ∗ ownsTc c (keepS i) qz X ∗ ownsTc c (keepS i) ql X) ⊢ (ownsTc c (keepS i) fullShare X : sProp 𝕄) := by
  unfold ownsTc
  iintro ⟨H1, H2, H3⟩
  iapply ((owns_halves ..).2)
  isplitl [H1]; · iexact H1
  iapply ((owns_halves ..).2)
  isplitl [H2]; · iexact H2
  iexact H3

omit [FloatOps F] in
theorem nine_roles (Φ : Role → sProp 𝕄) :
    bigSep Finset.univ Φ = iprop(Φ .xs ∗ Φ .xr ∗ Φ .ys ∗ Φ .yr ∗ Φ .zs ∗ Φ .zr ∗ Φ .fs ∗ Φ .fr ∗ Φ .lc) := by
  have hR : (Finset.univ : Finset Role) = {.xs, .xr, .ys, .yr, .zs, .zr, .fs, .fr, .lc} := by decide
  rw [hR]
  repeat rw [bigSep_insert (by decide)]
  rw [bigSep_singleton]
  rfl

/-! ## A finished chunk -/

/-- What a finished chunk leaves: its cells at rest, its slots, and its part of the result. -/
theorem done_chunk (c : Dev nD) (i : Fin 4) :
    chunk m c i .s5 ⊢ iprop((bigSep Finset.univ fun ρ : Role => idle (F := F) c ρ i)
      ∗ (anyS (F := F) c (keepS i) ∗ anyS (F := F) c (sendS i) ∗ anyS (F := F) c (recvS i)) ∗ outsAt m c i) := by
  rw [nine_roles]
  unfold chunk got pay
  dsimp only
  iintro ⟨⟨I1, P1⟩, ⟨I2, P2⟩, ⟨⟨I3, P3⟩, ⟨I4, P4⟩, ⟨I5, P5, P6⟩⟩, ⟨I6, I7, P7⟩, ⟨I8, P8⟩, ⟨I9, P9⟩⟩
  isplitl [I1 I2 I3 I4 I5 I6 I7 I8 I9]
  · isplitl [I1]; · iexact I1
    isplitl [I2]; · iexact I2
    isplitl [I3]; · iexact I3
    isplitl [I6]; · iexact I6
    isplitl [I4]; · iexact I4
    isplitl [I7]; · iexact I7
    isplitl [I8]; · iexact I8
    isplitl [I9]; · iexact I9
    iexact I5
  isplitl [P1 P2 P3 P4 P6]
  · isplitl [P3 P4 P6]
    · iexists _
      iapply (keep_join c i)
      isplitl [P3]; · iexact P3
      isplitl [P4]; · iexact P4
      iexact P6
    isplitl [P1]; · iexists _; iexact P1
    iexists _; iexact P2
  iapply (outsAt_of m c i)
  isplitl [P5]; · iexact P5
  isplitl [P7]; · iexact P7
  isplitl [P8]; · iexact P8
  iexact P9

end Cert.KernelIdeal.Talk

end
-- ==== Proof.Region.lean ====
/-
  The kernel's region. On entry a device opens its thirty-six transfer cells from the semaphores at zero, splits its result into
  slots, and hands the operands and the table to the pipeline; on exit the slots are whole buffers again, every semaphore is at
  zero, and the result holds its final contents.
-/
module

public import proofs.«01_k».proof.Proof.Whole

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ownSems0 prefHeld scopedRest OwnSemFacts)

variable {F : FTy → Type} [FloatOps F]

local notation "𝕄" => MT nD τ sig Unit (Elt F) ℕ UU ℕ

omit [FloatOps F] in
theorem pair_up {I : Type} [Fintype I] (Φ Ψ : I → sProp 𝕄) :
    iprop(bigSep Finset.univ Φ ∗ bigSep Finset.univ Ψ) ⊢ bigSep Finset.univ fun i => iprop(Φ i ∗ Ψ i) :=
  BI.BIBase.Entails.of_eq (bigSep_sep' Finset.univ Φ Ψ).symm

/-! ## The semaphores -/

/-- The kernel's own semaphores: those of the transfers, and the ones no transfer uses. -/
def osem : (Role × Fin 4) ⊕ (Bool × Fin 4) → SemLoc sig
  | .inl p => .dma (semOf p.1 p.2)
  | .inr p => .dma (idleSem p.1 p.2)

theorem osem_scoped : ∀ k, (osem k).isScoped .tc = true := by decide
theorem osem_inj : Function.Injective osem := by
  have h1 : ∀ (ρ : Role) (i : Fin 4) (j : Bool) (i' : Fin 4), semOf ρ i ≠ idleSem j i' := by decide +kernel
  have h2 : ∀ (j : Bool) (i : Fin 4) (j' : Bool) (i' : Fin 4), idleSem j i = idleSem j' i' → j = j' ∧ i = i' := by decide +kernel
  intro a b h
  match a, b with
  | .inl p, .inl p' =>
    have h' : semOf p.1 p.2 = semOf p'.1 p'.2 := SemLoc.dma.inj h
    exact congrArg Sum.inl (Prod.ext (semOf_inj h').1 (semOf_inj h').2)
  | .inl p, .inr p' => exact absurd (SemLoc.dma.inj h) (h1 _ _ _ _)
  | .inr p, .inl p' => exact absurd (SemLoc.dma.inj h).symm (h1 _ _ _ _)
  | .inr p, .inr p' =>
    have h' : idleSem p.1 p.2 = idleSem p'.1 p'.2 := SemLoc.dma.inj h
    exact congrArg Sum.inr (Prod.ext (h2 _ _ _ _ h').1 (h2 _ _ _ _ h').2)
theorem osem_disj : ∀ k w s, osem k ≠ .dma ((spec0 w).sem s) := by decide +kernel
theorem osem_facts : OwnSemFacts spec0 osem := ⟨osem_scoped, osem_inj, osem_disj⟩

omit [FloatOps F] in
theorem own_sems (c : Dev nD) :
    (ownSems0 osem c : sProp 𝕄) = iprop((bigSep Finset.univ fun p : Role × Fin 4 => semVal (cl c p.1 p.2) 0) ∗ idles (F := F) c) := by
  unfold ownSems0 idles
  rw [bigSep_univ_sum]
  rfl

/-! ## Opening the cells -/

/-- What the launch deals a device for chunk `i`: its own tokens, its credits, and the tokens for its partners' cells. -/
def raw (c : Dev nD) (i : Fin 4) : sProp 𝕄 :=
  iprop((dutyTok ER (cl c .xs i) 0 0 ∗ dutyTok ER (cl c .ys i) 0 0 ∗ dutyTok ER (cl c .zs i) 0 0 ∗ dutyTok ER (cl c .fs i) 0 0 ∗ dutyTok ER (cl c .lc i) 0 0)
    ∗ (cred (tallyAt (cl c .xr i) () (amt .xr)) ∗ cred (tallyAt (cl c .yr i) () (amt .yr)) ∗ cred (tallyAt (cl c .zr i) () (amt .zr)) ∗ cred (tallyAt (cl c .fr i) () (amt .fr)))
    ∗ (dutyTok ER (cl (px c) .xr i) 0 0 ∗ dutyTok ER (cl (py c) .yr i) 0 0 ∗ dutyTok ER (cl (pz c) .zr i) 0 0 ∗ dutyTok ER (cl (pf i c) .fr i) 0 0))

/-- A chunk's cells once open. -/
def cells (c : Dev nD) (i : Fin 4) : sProp 𝕄 :=
  iprop((kit (F := F) c .xs i ∗ kit (F := F) c .ys i ∗ kit (F := F) c .zs i ∗ kit (F := F) c .fs i ∗ kit (F := F) c .lc i)
    ∗ (await (F := F) c .xr i ∗ await (F := F) c .yr i ∗ await (F := F) c .zr i ∗ await (F := F) c .fr i)
    ∗ (dutyTok ER (cl (px c) .xr i) 0 0 ∗ dutyTok ER (cl (py c) .yr i) 0 0 ∗ dutyTok ER (cl (pz c) .zr i) 0 0 ∗ dutyTok ER (cl (pf i c) .fr i) 0 0)
    ∗ (reached ER (cl c .xr i) 0 ∗ reached ER (cl c .yr i) 0 ∗ reached ER (cl c .zr i) 0 ∗ reached ER (cl c .fr i) 0))

omit [FloatOps F] in
theorem cells_of (c : Dev nD) (i : Fin 4) :
    iprop(raw (F := F) c i ∗ bigSep Finset.univ fun ρ : Role => iprop(atPos ER (cl c ρ i) 0 ∅ 0 ∗ reached ER (cl c ρ i) 0)) ⊢ cells (F := F) c i := by
  rw [nine_roles]
  unfold raw cells kit await
  iintro ⟨⟨⟨T1, T2, T3, T4, T5⟩, ⟨C1, C2, C3, C4⟩, HT⟩, ⟨A1, R1⟩, ⟨A2, R2⟩, ⟨A3, R3⟩, ⟨A4, R4⟩, ⟨A5, R5⟩, ⟨A6, R6⟩, ⟨A7, R7⟩, ⟨A8, R8⟩, ⟨A9, R9⟩⟩
  isplitl [T1 T2 T3 T4 T5 A1 R1 A3 R3 A5 R5 A7 R7 A9 R9]
  · isplitl [T1 A1 R1]
    · isplitl [A1]; · iexact A1
      isplitl [T1]; · iexact T1
      iexact R1
    isplitl [T2 A3 R3]
    · isplitl [A3]; · iexact A3
      isplitl [T2]; · iexact T2
      iexact R3
    isplitl [T3 A5 R5]
    · isplitl [A5]; · iexact A5
      isplitl [T3]; · iexact T3
      iexact R5
    isplitl [T4 A7 R7]
    · isplitl [A7]; · iexact A7
      isplitl [T4]; · iexact T4
      iexact R7
    isplitl [A9]; · iexact A9
    isplitl [T5]; · iexact T5
    iexact R9
  isplitl [C1 C2 C3 C4 A2 A4 A6 A8]
  · isplitl [C1 A2]
    · isplitl [A2]; · iexact A2
      iexact C1
    isplitl [C2 A4]
    · isplitl [A4]; · iexact A4
      iexact C2
    isplitl [C3 A6]
    · isplitl [A6]; · iexact A6
      iexact C3
    isplitl [A8]; · iexact A8
    iexact C4
  isplitl [HT]; · iexact HT
  isplitl [R2]; · iexact R2
  isplitl [R4]; · iexact R4
  isplitl [R6]; · iexact R6
  iexact R8

variable (m : (ℓ : Loc nD τ sig) → Buf (Elt F) ℓ) (κ : GSem nD τ sig → ℕ)

theorem open_one (c : Dev nD) (p : Role × Fin 4) :
    iprop(recs m κ ∗ openTok ER (cl c p.1 p.2) ∗ semVal (cl c p.1 p.2) 0)
      ⊢ (iprop(|={Set.univ}=> (atPos ER (cl c p.1 p.2) 0 ∅ 0 ∗ reached ER (cl c p.1 p.2) 0)) : sProp 𝕄) := by
  iintro ⟨#HR, Ho, Hv⟩
  ihave Hi := (rec_at m κ (mem_cl c p.1 p.2)) $$ HR
  iapply (Rounds.cell_open ER (Rd m) (g := cl c p.1 p.2) (Set.mem_univ (κ (cl c p.1 p.2))))
  isplitl [Hi]; · iexact Hi
  isplitl [Ho]; · iexact Ho
  iexact Hv

/-- All of a device's transfer cells open at once, and each chunk has its own. -/
theorem open_all (c : Dev nD) :
    iprop(recs m κ ∗ (bigSep Finset.univ fun p : Role × Fin 4 => openTok ER (cl c p.1 p.2))
        ∗ (bigSep Finset.univ fun p : Role × Fin 4 => semVal (cl c p.1 p.2) 0) ∗ bigSep Finset.univ fun i => raw (F := F) c i)
      ⊢ (iprop(|={Set.univ}=> bigSep Finset.univ fun i => cells (F := F) c i) : sProp 𝕄) := by
  have h1 : iprop(recs m κ ∗ bigSep Finset.univ fun p : Role × Fin 4 => iprop(openTok ER (cl c p.1 p.2) ∗ semVal (cl c p.1 p.2) 0))
      ⊢ (iprop(|={Set.univ}=> bigSep Finset.univ fun p : Role × Fin 4 => iprop(atPos ER (cl c p.1 p.2) 0 ∅ 0 ∗ reached ER (cl c p.1 p.2) 0)) : sProp 𝕄) :=
    (bigSep_with_persistent fun p _ => open_one m κ c p).trans (bigSep_fupd _ _)
  have h2 : iprop((bigSep Finset.univ fun p : Role × Fin 4 => iprop(atPos ER (cl c p.1 p.2) 0 ∅ 0 ∗ reached ER (cl c p.1 p.2) 0))
      ∗ bigSep Finset.univ fun i => raw (F := F) c i) ⊢ (bigSep Finset.univ fun i => cells (F := F) c i : sProp 𝕄) := by
    rw [bigSep_univ_prod, bigSep_univ_comm fun (ρ : Role) (i : Fin 4) => (iprop(atPos ER (cl c ρ i) 0 ∅ 0 ∗ reached ER (cl c ρ i) 0) : sProp 𝕄)]
    have h3 : iprop((bigSep Finset.univ fun i => raw (F := F) c i)
        ∗ bigSep Finset.univ fun i : Fin 4 => bigSep Finset.univ fun ρ : Role => iprop(atPos ER (cl c ρ i) 0 ∅ 0 ∗ reached ER (cl c ρ i) 0))
        ⊢ (bigSep Finset.univ fun i => cells (F := F) c i : sProp 𝕄) := (pair_up _ _).trans (bigSep_mono fun i _ => cells_of (F := F) c i)
    iintro ⟨H1, H2⟩
    iapply h3
    isplitl [H2]; · iexact H2
    iexact H1
  iintro ⟨#HR, Ho, Hv, Hw⟩
  ihave H := (pair_up (fun p : Role × Fin 4 => openTok ER (cl c p.1 p.2)) (fun p : Role × Fin 4 => semVal (cl c p.1 p.2) 0)) $$ [Ho Hv]
  · isplitl [Ho]; · iexact Ho
    iexact Hv
  imod h1 $$ [H] with H
  · isplitr; · iexact HR
    iexact H
  imodintro
  iapply h2
  isplitl [H]; · iexact H
  iexact Hw

/-! ## Into the pipeline -/

omit [FloatOps F] in
/-- The slots and the cells, chunk by chunk. -/
theorem starts_of (c : Dev nD) :
    iprop((bigSep Finset.univ fun i => anyS (F := F) c (keepS i)) ∗ (bigSep Finset.univ fun i => anyS (F := F) c (sendS i))
        ∗ (bigSep Finset.univ fun i => anyS (F := F) c (recvS i)) ∗ (bigSep Finset.univ fun t : Fin 4 × Fin 4 => anyS (F := F) c (outS t.1 t.2))
        ∗ bigSep Finset.univ fun i => cells (F := F) c i)
      ⊢ (bigSep Finset.univ fun i => startChunk (F := F) c i : sProp 𝕄) := by
  rw [bigSep_univ_prod, four_quarters c fun q => bigSep Finset.univ fun i : Fin 4 => anyS (F := F) c (outS q i)]
  have e : (bigSep Finset.univ fun i => startChunk (F := F) c i) = bigSep Finset.univ fun i : Fin 4 =>
      iprop((anyS (F := F) c (keepS i) ∗ anyS (F := F) c (sendS i))
        ∗ (anyS (F := F) c (recvS i) ∗ anyS (F := F) c (outS (qd c) i) ∗ anyS (F := F) c (outS (qd (py c)) i)
          ∗ anyS (F := F) c (outS (qd (pz c)) i) ∗ anyS (F := F) c (outS (qd (pd c)) i)) ∗ cells (F := F) c i) := rfl
  rw [e]
  simp only [bigSep_sep']
  iintro ⟨H1, H2, H3, ⟨H4, H5, H6, H7⟩, H8⟩
  isplitl [H1 H2]
  · isplitl [H1]; · iexact H1
    iexact H2
  isplitl [H3 H4 H5 H6 H7]
  · isplitl [H3]; · iexact H3
    isplitl [H4]; · iexact H4
    isplitl [H5]; · iexact H5
    isplitl [H6]; · iexact H6
    iexact H7
  iexact H8

/-- What the pipeline's invariant takes from outside the region's scratch buffers. -/
def XX (c : Dev nD) : sProp 𝕄 :=
  iprop((∃ κ, recs m κ) ∗ levAts L lv ∗ idles (F := F) c ∗ barKit (F := F) c
    ∗ (bigSep Finset.univ fun t : Fin 4 × Fin 4 => anyS (F := F) c (outS t.1 t.2)) ∗ bigSep Finset.univ fun i => cells (F := F) c i)

theorem region_in (c : Dev nD) : iprop(XX m c ∗ scopedRest spec0 c) ⊢ (Inv m c 0 : sProp 𝕄) := by
  rw [scopedRest0_eq]
  unfold XX Inv stand start
  rw [if_pos rfl]
  iintro ⟨⟨HR, HL, HI, HB, HO, HC⟩, ⟨%f0, H0⟩, ⟨%f1, H1⟩, ⟨%f2, H2⟩⟩
  isplitl [HR]; · iexact HR
  isplitl [HL]; · iexact HL
  isplitl [HI]; · iexact HI
  isplitl [HB]; · iexact HB
  iapply (starts_of c)
  isplitl [H0]
  · iapply (show (((c : Thread nD τ).loc cc0_scratch0) ↦{fullShare} f0 : sProp 𝕄) ⊢ bigSep Finset.univ fun i : Fin 4 => anyS (F := F) c (keepS i) from
      (BI.BIBase.Entails.of_eq (owns_whole (c : Thread nD τ) cc0_scratch0 fullShare f0).symm).trans (slots_of c keepM f0))
    iexact H0
  isplitl [H1]
  · iapply (show (((c : Thread nD τ).loc cc0_scratch1) ↦{fullShare} f1 : sProp 𝕄) ⊢ bigSep Finset.univ fun i : Fin 4 => anyS (F := F) c (sendS i) from
      (BI.BIBase.Entails.of_eq (owns_whole (c : Thread nD τ) cc0_scratch1 fullShare f1).symm).trans (slots_of c sendM f1))
    iexact H1
  isplitl [H2]
  · iapply (show (((c : Thread nD τ).loc cc0_scratch2) ↦{fullShare} f2 : sProp 𝕄) ⊢ bigSep Finset.univ fun i : Fin 4 => anyS (F := F) c (recvS i) from
      (BI.BIBase.Entails.of_eq (owns_whole (c : Thread nD τ) cc0_scratch2 fullShare f2).symm).trans (slots_of c recvM f2))
    iexact H2
  isplitl [HO]; · iexact HO
  iexact HC

/-! ## Out of it -/

theorem outs_join (c : Dev nD) : (bigSep Finset.univ fun i : Fin 4 => outsAt m c i) ⊢ (ownsTc c outM fullShare (final m c) : sProp 𝕄) := by
  refine BI.BIBase.Entails.trans (BI.BIBase.Entails.of_eq ?_) (of_outs m c)
  unfold outsAt
  rw [bigSep_univ_prod, bigSep_univ_comm]

omit [FloatOps F] in
theorem scratch_whole (c : Dev nD) (b : Ref sig .tc) (hs : b.ty = ⟨S4x1024x512, .f32⟩) (X : b.ty.Contents (Elt F)) :
    (ownsTc c (Memref.whole b) fullShare X : sProp 𝕄) ⊢ iprop(∃ f : Buf (Elt F) ((c : Thread nD τ).loc b), ((c : Thread nD τ).loc b) ↦{fullShare} f) := by
  unfold ownsTc
  rw [owns_whole]
  iintro H
  iexists X
  iexact H

/-- What the pipeline leaves besides the scratch buffers and the semaphores. -/
def YY (c : Dev nD) : sProp 𝕄 := iprop(semVal (barCell c) 0 ∗ ownsTc c outM fullShare (final m c))

theorem region_out (c : Dev nD) (n : Nat) (hn : 28 ≤ n) : (Inv m c n : sProp 𝕄) ⊢ iprop(YY m c ∗ ownSems0 osem c ∗ scopedRest spec0 c) := by
  rw [scopedRest0_eq, own_sems]
  unfold Inv stand YY chunks
  rw [if_neg (by omega), bigSep_univ_prod, bigSep_univ_comm fun (ρ : Role) (i : Fin 4) => (semVal (cl c ρ i) 0 : sProp 𝕄)]
  have e : (bigSep Finset.univ fun i : Fin 4 => chunk m c i (stageAt n i)) ⊢ (iprop((bigSep Finset.univ fun i : Fin 4 => bigSep Finset.univ fun ρ : Role => idle (F := F) c ρ i)
      ∗ ((bigSep Finset.univ fun i => anyS (F := F) c (keepS i)) ∗ (bigSep Finset.univ fun i => anyS (F := F) c (sendS i)) ∗ (bigSep Finset.univ fun i => anyS (F := F) c (recvS i)))
      ∗ bigSep Finset.univ fun i => outsAt m c i) : sProp 𝕄) := by
    rw [← bigSep_sep', ← bigSep_sep', ← bigSep_sep', ← bigSep_sep']
    refine bigSep_mono fun i _ => ?_
    rw [show stageAt n i = .s5 from if_pos hn]
    exact done_chunk m c i
  iintro ⟨-, -, HI, HB, HC⟩
  ihave HD := e $$ HC
  icases HD with ⟨H1, ⟨H2, H3, H4⟩, H5⟩
  isplitl [HB H5]
  · isplitl [HB]; · iexact HB
    iapply (outs_join m c)
    iexact H5
  isplitl [H1 HI]
  · isplitl [H1]; · iexact H1
    iexact HI
  ihave HK := (show (bigSep Finset.univ fun i : Fin 4 => anyS (F := F) c (keepS i)) ⊢ (iprop(∃ X, ownsTc c keepM fullShare X) : sProp 𝕄) from of_slots c keepM) $$ H2
  icases HK with ⟨%X0, HK⟩
  ihave HS := (show (bigSep Finset.univ fun i : Fin 4 => anyS (F := F) c (sendS i)) ⊢ (iprop(∃ X, ownsTc c sendM fullShare X) : sProp 𝕄) from of_slots c sendM) $$ H3
  icases HS with ⟨%X1, HS⟩
  ihave HV := (show (bigSep Finset.univ fun i : Fin 4 => anyS (F := F) c (recvS i)) ⊢ (iprop(∃ X, ownsTc c recvM fullShare X) : sProp 𝕄) from of_slots c recvM) $$ H4
  icases HV with ⟨%X2, HV⟩
  isplitl [HK]; · iapply (scratch_whole c cc0_scratch0 rfl X0); iexact HK
  isplitl [HS]; · iapply (scratch_whole c cc0_scratch1 rfl X1); iexact HS
  iapply (scratch_whole c cc0_scratch2 rfl X2); iexact HV

end Cert.KernelIdeal.Talk

end
-- ==== Proof.Enter.lean ====
/-
  The region's record: the table the host operations leave is the one the pipeline is pinned at; the operands and the result are
  picked out of the unscoped buffers; the pipeline may wait on its own cells at every point.
-/
module

public import proofs.«01_k».proof.Proof.Region
public import proofs.«01_k».proof.Proof.Gen.KernelIdeal.Regions

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ownSems0 prefHeld scopedRest OwnSemFacts)

variable {F : FTy → Type} [FloatOps F]

local notation "𝕄" => MT nD τ sig Unit (Elt F) ℕ UU ℕ

variable (m : (ℓ : Loc nD τ sig) → Buf (Elt F) ℓ)

/-! ## The table -/

theorem quarter_word : ∀ c : Dev nD, Scalar.addi (Scalar.muli 2#32 (Scalar.remui (Scalar.divui (Dev.word c) 2#32) 2#32)) (Scalar.remui (Scalar.divui (Dev.word c) 1#32) 2#32)
    = BitVec.ofNat 32 (c.val % 4) := by decide

theorem table (c : Dev nD) : V1 m c main_v11 = tab (F := F) c 0 := by
  show StableHlo.after (hostOps0 c) (V0 m c) main_v11 = _
  after_results
  funext x
  exact quarter_word c

/-! ## The buffers the region uses -/

/-- The operands, the table and the result, out of all the unscoped buffers. -/
theorem held_four (c : Dev nD) (V : Valuation τ sig (Elt F)) :
    (StableHlo.held (c : Thread nD τ) (Pipeline.ucRefs τ sig) V : sProp 𝕄)
      ⊢ iprop((((c : Thread nD τ).loc main_arg0) ↦{fullShare} V main_arg0) ∗ (((c : Thread nD τ).loc main_arg1) ↦{fullShare} V main_arg1)
        ∗ (((c : Thread nD τ).loc main_v11) ↦{fullShare} V main_v11) ∗ (((c : Thread nD τ).loc main_v12) ↦{fullShare} V main_v12)) := by
  unfold StableHlo.held
  have hs : ({Proc.devRef .tc main_arg0, Proc.devRef .tc main_arg1, Proc.devRef .tc main_v11, Proc.devRef .tc main_v12} : Finset (DevRef τ sig)) ⊆ Pipeline.ucRefs τ sig := by decide
  have e : (bigSep ({Proc.devRef .tc main_arg0, Proc.devRef .tc main_arg1, Proc.devRef .tc main_v11, Proc.devRef .tc main_v12} : Finset (DevRef τ sig))
      (fun b => (((c : Thread nD τ).1, b) : Loc nD τ sig) ↦{fullShare} V b) : sProp 𝕄)
      = iprop((((c : Thread nD τ).loc main_arg0) ↦{fullShare} V main_arg0) ∗ (((c : Thread nD τ).loc main_arg1) ↦{fullShare} V main_arg1)
        ∗ (((c : Thread nD τ).loc main_v11) ↦{fullShare} V main_v11) ∗ (((c : Thread nD τ).loc main_v12) ↦{fullShare} V main_v12)) := by
    rw [bigSep_insert (by decide), bigSep_insert (by decide), bigSep_insert (by decide), bigSep_singleton]
    rfl
  rw [← e]
  exact bigSep_subset hs

/-- The windows' arrays are the operands as launched, at every point. -/
theorem arrays_at (c : Dev nD) (n : Nat) :
    ((dat0 m c).arrays ((dat0 m c).arrAt · n) : sProp 𝕄)
      = iprop((((c : Thread nD τ).loc main_arg0) ↦{fullShare} m ((c : Thread nD τ).loc main_arg0)) ∗ (((c : Thread nD τ).loc main_arg1) ↦{fullShare} m ((c : Thread nD τ).loc main_arg1))) := by
  have h := Pipeline.PerCore.arrays_eq (Pipeline.pinD (pcfgs (F := F)) adm) (dats m) 0 c arr_whole0
    (fun w => by match w with | 0 => rfl | 1 => rfl) (fun w => (dat0 m c).arrAt w n)
  refine (show _ = _ from h).trans ?_
  rw [bigSep_W0]
  have h0 : (dat0 m c).arrAt 0 n = m ((c : Thread nD τ).loc main_arg0) := Dat.arrAt_in _ _ rfl n
  have h1 : (dat0 m c).arrAt 1 n = m ((c : Thread nD τ).loc main_arg1) := Dat.arrAt_in _ _ rfl n
  rw [h0, h1]

/-! ## The pipeline's waits -/

theorem dec_stage : ∀ (w : Fin 2) (s : Fin (spec0 w).nbuf), dec ((spec0 w).sem s) = none := by
  have h : ∀ (w : Fin 2) (s : Fin (spec0 w).nbuf) (ρ : Role) (i : Fin 4), semOf ρ i ≠ (spec0 w).sem s := by decide +kernel
  intro w s
  unfold dec
  rw [List.find?_eq_none]
  intro p _
  simpa using h w s p.1 p.2

theorem above_O₀ (c : Dev nD) : Above 0 (O₀ c) := by
  unfold O₀
  refine above_add (above_add (above_add (above_owed c ?_ ?_ ?_) (above_tally ?_)) (above_tally ?_)) (above_tally ?_)
  · left; omega
  · left; omega
  · left; omega
  all_goals exact Nat.zero_lt_one

theorem above_owedAt (c : Dev nD) (n : Nat) : Above 0 (owedAt c n) := by
  unfold owedAt
  split
  · exact above_O₀ c
  · exact above_owed c (Or.inl (by omega)) (Or.inl (by omega)) (Or.inl (by omega))

theorem pipe_waits (c : Dev nD) : (levAts L lv : sProp 𝕄) ⊢ Pipeline.PerCore.cellsWaits (Pipeline.pinD (pcfgs (F := F)) adm) (dats m) () 0 c :=
  Pipeline.PerCore.cellsWaits_intro (Pipeline.pinD (pcfgs (F := F)) adm) (dats m) () 0 c fun w s t =>
    mayWait c (.dma ((spec0 w).sem s)) (owedAt c t.val) (by
      have e : lvS (.dma ((spec0 w).sem s)) = 0 := by
        unfold lvS
        dsimp only
        rw [dec_stage w s]
      rw [e]
      exact above_owedAt c t.val)

theorem owed_end (c : Dev nD) : owedAt c 28 = 0 := by
  show owed c 7 6 5 = 0
  unfold owed
  rw [rem_ge _ (by omega), rem_ge _ (by omega), rem_ge _ (by omega), add_zero, add_zero]

/-! ## The record -/

/-- What a device carries through the host operations: the records, the handshake's cells, the rights to open its transfer
    cells, the tokens and credits, and what it owes. -/
def EE (c : Dev nD) : sProp 𝕄 :=
  iprop((∃ κ, recs m κ) ∗ barKit (F := F) c ∗ (bigSep Finset.univ fun p : Role × Fin 4 => openTok ER (cl c p.1 p.2))
    ∗ (bigSep Finset.univ fun i => raw (F := F) c i) ∗ ∃ W, owes (c : Thread nD τ) (O₀ c) W)

/-- What it has at the end. -/
def PP (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_v12) ↦{fullShare} final m c) ∗ semVal (barCell c) 0)

theorem region_entry (c : Dev nD) :
    iprop((StableHlo.held (c : Thread nD τ) (Pipeline.ucRefs τ sig) (V1 m c) ∗ EE m c) ∗ ownSems0 osem c ∗ levAts L lv)
      ⊢ (iprop(|={Set.univ}=> ((dat0 m c).arrays ((dat0 m c).arrAt · 0) ∗ prefHeld (pre0 : Pipeline.Prefetch sig) c (fun _ => fullShare) (tab (F := F) c)
        ∗ (dat0 m c).owesAt () 0 ∗ XX m c ∗ emp)) : sProp 𝕄) := by
  rw [arrays_at, own_sems]
  unfold EE XX prefHeld
  rw [bigSep_univ_of_subsingleton (0 : Fin 1)]
  iintro ⟨⟨HH, ⟨%κ, #HR⟩, HB, Ho, Hw, HO⟩, ⟨Hs, Hi⟩, HL⟩
  ihave H4 := (held_four c (V1 m c)) $$ HH
  icases H4 with ⟨H0, H1, H11, H12⟩
  imod (open_all m κ c) $$ [Ho Hs Hw] with HC
  · isplitr; · iexact HR
    isplitl [Ho]; · iexact Ho
    isplitl [Hs]; · iexact Hs
    iexact Hw
  imodintro
  isplitl [H0 H1]
  · isplitl [H0]
    · iapply (show (((c : Thread nD τ).loc main_arg0) ↦{fullShare} V1 m c main_arg0 : sProp 𝕄) ⊢ (((c : Thread nD τ).loc main_arg0) ↦{fullShare} m ((c : Thread nD τ).loc main_arg0)) from
        BI.BIBase.Entails.of_eq (by rw [V1_of m c main_arg0 (by decide)]))
      iexact H0
    iapply (show (((c : Thread nD τ).loc main_arg1) ↦{fullShare} V1 m c main_arg1 : sProp 𝕄) ⊢ (((c : Thread nD τ).loc main_arg1) ↦{fullShare} m ((c : Thread nD τ).loc main_arg1)) from
      BI.BIBase.Entails.of_eq (by rw [V1_of m c main_arg1 (by decide)]))
    iexact H1
  isplitl [H11]
  · iapply (show (((c : Thread nD τ).loc main_v11) ↦{fullShare} V1 m c main_v11 : sProp 𝕄) ⊢ (((c : Thread nD τ).loc main_v11) ↦{fullShare} tab (F := F) c 0) from
      BI.BIBase.Entails.of_eq (by rw [table]))
    iexact H11
  isplitl [HO]
  · iapply (owes_in m c 0 (O₀ c) rfl)
    iexact HO
  isplitl
  · isplitr; · iexists κ; iexact HR
    isplitl [HL]; · iexact HL
    isplitl [Hi]; · iexact Hi
    isplitl [HB]; · iexact HB
    isplitl [H12]
    · iapply (show (((c : Thread nD τ).loc main_v12) ↦{fullShare} V1 m c main_v12 : sProp 𝕄) ⊢ bigSep Finset.univ fun t : Fin 4 × Fin 4 => anyS (F := F) c (outS t.1 t.2) from
        (BI.BIBase.Entails.of_eq (owns_whole (c : Thread nD τ) main_v12 fullShare (V1 m c main_v12)).symm).trans (outs_of c _))
      iexact H12
    iexact HC
  iempintro

theorem region_exit (c : Dev nD) :
    iprop((dat0 m c).arrays ((dat0 m c).arrAt · grid0.N) ∗ (dat0 m c).owesAt () (Fin.last grid0.N) ∗ YY m c ∗ emp)
      ⊢ (iprop(|={Set.univ}=> (PP m c ∗ ∃ W, owes (c : Thread nD τ) (0 : CellTallies nD τ sig Unit) W)) : sProp 𝕄) := by
  rw [arrays_at]
  unfold YY PP
  iintro ⟨⟨H0, H1⟩, HO, ⟨HB, H12⟩, -⟩
  imodintro
  isplitl [H0 H1 HB H12]
  · isplitl [H0]; · iexact H0
    isplitl [H1]; · iexact H1
    isplitl [H12]
    · iapply (show (ownsTc c outM fullShare (final m c) : sProp 𝕄) ⊢ (((c : Thread nD τ).loc main_v12) ↦{fullShare} final m c) from
        BI.BIBase.Entails.of_eq (owns_whole (c : Thread nD τ) main_v12 fullShare (final m c)))
      iexact H12
    iexact HB
  iapply (owes_out m c (Fin.last grid0.N) 0 (owed_end c))
  iexact HO

/-- The region. -/
def reg : Pipeline.PerCore.RegionSeg (pcfgs (F := F)) adm (dats m) () defs₀ 𝒱₀ L lv 0 where
  win := winFacts0.to₀
  block_pos := block_pos0
  stage_whole := stage_whole0
  K := (Role × Fin 4) ⊕ (Bool × Fin 4)
  osem := osem
  ho := osem_facts
  hbody c := (body_obligation m c).loose
  hwaits c := pipe_waits m c
  pre c := iprop(StableHlo.held (c : Thread nD τ) (Pipeline.ucRefs τ sig) (V1 m c) ∗ EE m c)
  post c := iprop(PP m c ∗ ∃ W, owes (c : Thread nD τ) (0 : CellTallies nD τ sig Unit) W)
  X c := XX m c
  Y c := YY m c
  Z _ := iprop(emp)
  hentry c := region_entry m c
  hin c := by
    refine BI.BIBase.Entails.trans ?_ (region_in m c)
    iintro ⟨HX, -, HS⟩
    isplitl [HX]; · iexact HX
    iexact HS
  hout c := region_out m c 28 (le_refl _)
  hexit c := region_exit m c

end Cert.KernelIdeal.Talk

end
-- ==== Proof.Credits.lean ====
/-
  What the launch deals. Of the credit: three units on a device's handshake cell, and for every chunk the amounts of
  the four arrivals, since each partner relation is its own inverse. Of the tokens: a device keeps those of its own sends and
  hands those of its handshake and arrival cells to the partners that pay them.
-/
module

public import proofs.«01_k».proof.Proof.Region

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credit -/

theorem cl_ne_bar (a c : Dev nD) (ρ : Role) (i : Fin 4) : cl a ρ i ≠ barCell c := fun h => by
  have := congrArg Prod.snd h
  simp at this

theorem tally_cl (a c : Dev nD) (ρ ρ' : Role) (i j : Fin 4) (n : Nat) :
    (tallyAt (cl a ρ j) () n : CellTallies nD τ sig Unit) (cl c ρ' i) () = if j = i then (if ρ = ρ' then (if a = c then n else 0) else 0) else 0 := by
  rw [tallyAt_apply]
  by_cases h : cl c ρ' i = cl a ρ j
  · obtain ⟨rfl, rfl, rfl⟩ := cl_inj h
    simp
  · rw [if_neg fun h' => h h'.1]
    split
    · split
      · split
        · next h1 h2 h3 => subst h1 h2 h3; exact absurd rfl h
        · rfl
      · rfl
    · rfl
theorem tally_cl_bar (a c : Dev nD) (ρ : Role) (j : Fin 4) (n : Nat) : (tallyAt (cl a ρ j) () n : CellTallies nD τ sig Unit) (barCell c) () = 0 := by
  rw [tallyAt_apply, if_neg fun h => cl_ne_bar a c ρ j h.1.symm]
theorem tally_bar_cl (a c : Dev nD) (ρ : Role) (i : Fin 4) (n : Nat) : (tallyAt (barCell a) () n : CellTallies nD τ sig Unit) (cl c ρ i) () = 0 := by
  rw [tallyAt_apply, if_neg fun h => cl_ne_bar c a ρ i h.1]
theorem tally_bar (a c : Dev nD) (n : Nat) : (tallyAt (barCell a) () n : CellTallies nD τ sig Unit) (barCell c) () = if a = c then n else 0 := by
  rw [tallyAt_apply]
  by_cases h : a = c
  · subst h; simp
  · rw [if_neg h, if_neg fun h' => h (congrArg (fun g : GSem nD τ sig => g.1.1) h'.1).symm]

theorem rem_all (f : Fin 4 → CellTallies nD τ sig Unit) (g : GSem nD τ sig) : rem f 0 g () = ∑ i, f i g () := by
  unfold rem
  rw [Finset.sum_apply, Finsupp.finset_sum_apply]
  exact Finset.sum_congr rfl fun i _ => by rw [if_pos (Nat.zero_le _)]

theorem px_eq (d c : Dev nD) : px d = c ↔ d = px c := ⟨fun h => by rw [← h, px_px], fun h => by rw [h, px_px]⟩
theorem py_eq (d c : Dev nD) : py d = c ↔ d = py c := ⟨fun h => by rw [← h, py_py], fun h => by rw [h, py_py]⟩
theorem pz_eq (d c : Dev nD) : pz d = c ↔ d = pz c := ⟨fun h => by rw [← h, pz_pz], fun h => by rw [h, pz_pz]⟩
theorem pf_eq (i : Fin 4) (d c : Dev nD) : pf i d = c ↔ d = pf i c := ⟨fun h => by rw [← h, pf_pf], fun h => by rw [h, pf_pf]⟩

theorem due_apply (d : Dev nD) (g : GSem nD τ sig) :
    O₀ d g () = (∑ i, fx d i g ()) + (∑ i, fyz d i g ()) + (∑ i, ff d i g ())
      + (tallyAt (barCell (pz d)) () 1 : CellTallies nD τ sig Unit) g () + (tallyAt (barCell (py d)) () 1 : CellTallies nD τ sig Unit) g ()
      + (tallyAt (barCell (px d)) () 1 : CellTallies nD τ sig Unit) g () := by
  unfold O₀ owed
  simp only [Pi.add_apply, Finsupp.add_apply, rem_all]

theorem due_bar (c : Dev nD) : ∑ d, O₀ d (barCell c) () = 3 := by
  simp only [due_apply, fx, fyz, ff, Pi.add_apply, Finsupp.add_apply, tally_cl_bar, tally_bar, Finset.sum_const_zero, add_zero, zero_add,
    px_eq, py_eq, pz_eq, Finset.sum_add_distrib, Finset.sum_ite_eq', Finset.mem_univ, if_true]

/-- What the partners owe on the arrival cells. -/
def arrives : Role → Bool | .xr => true | .yr => true | .zr => true | .fr => true | _ => false

theorem due_cl (c : Dev nD) (ρ : Role) (i : Fin 4) (h : arrives ρ = true) : ∑ d, O₀ d (cl c ρ i) () = amt ρ := by
  cases ρ <;> first | exact absurd h (by decide) |
    simp [due_apply, fx, fyz, ff, Pi.add_apply, Finsupp.add_apply, tally_cl, tally_bar_cl,
      px_eq, py_eq, pz_eq, pf_eq, Finset.sum_ite_eq', Finset.mem_univ]

theorem credit_of (g : GSem nD τ sig) (n : Nat) (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- A chunk's credits. -/
def owing4 (c : Dev nD) (i : Fin 4) : sProp 𝕄 :=
  iprop(cred (tallyAt (cl c .xr i) () (amt .xr)) ∗ cred (tallyAt (cl c .yr i) () (amt .yr)) ∗ cred (tallyAt (cl c .zr i) () (amt .zr)) ∗ cred (tallyAt (cl c .fr i) () (amt .fr)))

omit [FloatOps F] in
theorem creds (c : Dev nD) :
    (Pipeline.launchCred O₀ c : sProp 𝕄) ⊢ iprop(cred (tallyAt (barCell c) () 3) ∗ bigSep Finset.univ fun i => owing4 (F := F) c i) := by
  have hinj : Set.InjOn (fun p : Fin 4 × Role => (SemLoc.dma (semOf p.2 p.1) : SemLoc sig)) (Finset.univ : Finset (Fin 4 × Role)) := fun p _ q _ h => by
    have h' := semOf_inj (SemLoc.dma.inj h)
    exact Prod.ext h'.2 h'.1
  have hsub : (Finset.univ : Finset (Fin 4 × Role)).image (fun p => (SemLoc.dma (semOf p.2 p.1) : SemLoc sig)) ⊆ Finset.univ.erase (SemLoc.reg barrier0) := fun s hs => by
    obtain ⟨p, -, rfl⟩ := Finset.mem_image.mp hs
    exact Finset.mem_erase.mpr ⟨fun h => (by cases h), Finset.mem_univ _⟩
  have h4 (i : Fin 4) : (bigSep Finset.univ fun ρ : Role => cred (tallyOn (cl c ρ i) (launchCredit (Pipeline.owing O₀) 0 (cl c ρ i))) : sProp 𝕄) ⊢ owing4 (F := F) c i := by
    rw [nine_roles, credit_of _ _ (due_cl c .xr i rfl), credit_of _ _ (due_cl c .yr i rfl), credit_of _ _ (due_cl c .zr i rfl), credit_of _ _ (due_cl c .fr i rfl)]
    unfold owing4
    iintro ⟨-, H1, -, H2, -, H3, -, H4, -⟩
    isplitl [H1]; · iexact H1
    isplitl [H2]; · iexact H2
    isplitl [H3]; · iexact H3
    iexact H4
  have h5 : (bigSep (Finset.univ.erase (SemLoc.reg barrier0)) fun sm : SemLoc sig => cred (tallyOn ((c : Thread nD τ), sm) (launchCredit (Pipeline.owing O₀) 0 ((c : Thread nD τ), sm))) : sProp 𝕄)
      ⊢ bigSep Finset.univ fun i => owing4 (F := F) c i := by
    have h6 : (bigSep ((Finset.univ : Finset (Fin 4 × Role)).image (fun p => (SemLoc.dma (semOf p.2 p.1) : SemLoc sig)))
        fun sm : SemLoc sig => cred (tallyOn ((c : Thread nD τ), sm) (launchCredit (Pipeline.owing O₀) 0 ((c : Thread nD τ), sm))) : sProp 𝕄)
        ⊢ bigSep Finset.univ fun i => owing4 (F := F) c i := by
      rw [bigSep_image_of_injOn hinj, bigSep_univ_prod]
      exact bigSep_mono fun i _ => h4 i
    exact (bigSep_subset hsub).trans h6
  unfold Pipeline.launchCred
  rw [bigSep_univ_at _ (SemLoc.reg barrier0), credit_of _ _ (due_bar c)]
  iintro ⟨H1, H2⟩
  isplitl [H1]; · iexact H1
  iapply h5
  iexact H2

/-! ## The tokens -/

def barToks : Finset (GSem nD τ sig × ℕ × Fin 3) := (Finset.univ : Finset (Dev nD × Fin 3)).image fun p => (barCell p.1, 0, p.2)
def roleToks : Finset (GSem nD τ sig × ℕ × Fin 3) := (Finset.univ : Finset (Dev nD × Fin 4 × Role)).image fun p => (cl p.1 p.2.2 p.2.1, 0, 0)
def toks : Finset (GSem nD τ sig × ℕ × Fin 3) := barToks ∪ roleToks

theorem disjoint_cells : Disjoint barCells roleCells := by
  rw [Finset.disjoint_left]
  intro g h₁ h₂
  obtain ⟨c, -, rfl⟩ := Finset.mem_image.mp h₁
  obtain ⟨p, -, h⟩ := Finset.mem_image.mp h₂
  exact cl_ne_bar _ _ _ _ h

theorem disjoint_toks : Disjoint barToks roleToks := by
  rw [Finset.disjoint_left]
  intro g h₁ h₂
  obtain ⟨c, -, rfl⟩ := Finset.mem_image.mp h₁
  obtain ⟨p, -, h⟩ := Finset.mem_image.mp h₂
  exact cl_ne_bar _ _ _ _ (congrArg Prod.fst h)

theorem bar_inj : Function.Injective (fun c : Dev nD => barCell c) := fun _ _ h => congrArg (fun g : GSem nD τ sig => g.1.1) h

/-- The tokens a device pays for chunk `i`: of its own sends, and of its partners' arrivals. -/
def pays (c : Dev nD) (i : Fin 4) : sProp 𝕄 :=
  iprop((dutyTok ER (cl c .xs i) 0 0 ∗ dutyTok ER (cl c .ys i) 0 0 ∗ dutyTok ER (cl c .zs i) 0 0 ∗ dutyTok ER (cl c .fs i) 0 0 ∗ dutyTok ER (cl c .lc i) 0 0)
    ∗ (dutyTok ER (cl (px c) .xr i) 0 0 ∗ dutyTok ER (cl (py c) .yr i) 0 0 ∗ dutyTok ER (cl (pz c) .zr i) 0 0 ∗ dutyTok ER (cl (pf i c) .fr i) 0 0))

/-- The tokens it pays on its partners' handshake cells. -/
def greets (c : Dev nD) : sProp 𝕄 :=
  iprop(dutyTok ER (barCell (px c)) 0 0 ∗ dutyTok ER (barCell (py c)) 0 1 ∗ dutyTok ER (barCell (pz c)) 0 2)

def swap (f : Dev nD → Dev nD) (h : ∀ c, f (f c) = c) : Dev nD ≃ Dev nD := ⟨f, f, h, h⟩

omit [FloatOps F] in
theorem hand (f : Dev nD → Dev nD) (h : ∀ c, f (f c) = c) (Φ : Dev nD → sProp 𝕄) :
    bigSep Finset.univ Φ = bigSep Finset.univ fun c => Φ (f c) := bigSep_univ_equiv (swap f h) Φ

omit [FloatOps F] in
theorem deal_bar : (bigSep barToks fun x => (dutyTok ER x.1 x.2.1 x.2.2 : sProp 𝕄)) ⊢ bigSep Finset.univ fun c => greets (F := F) c := by
  unfold barToks greets
  rw [bigSep_image_of_injOn (fun p _ q _ h => Prod.ext (bar_inj (congrArg Prod.fst h)) (congrArg (fun x : GSem nD τ sig × ℕ × Fin 3 => x.2.2) h)), bigSep_univ_prod]
  have e (c : Dev nD) : (bigSep Finset.univ fun d : Fin 3 => (dutyTok ER (barCell c) 0 d : sProp 𝕄))
      = iprop(dutyTok ER (barCell c) 0 0 ∗ dutyTok ER (barCell c) 0 1 ∗ dutyTok ER (barCell c) 0 2) := by
    rw [show (Finset.univ : Finset (Fin 3)) = {0, 1, 2} from by decide, bigSep_insert (by decide), bigSep_insert (by decide), bigSep_singleton]
    rfl
  rw [bigSep_congr fun c _ => e c]
  rw [bigSep_sep', bigSep_sep', bigSep_sep', bigSep_sep', hand px px_px (fun c => (dutyTok ER (barCell c) 0 0 : sProp 𝕄)),
    hand py py_py (fun c => (dutyTok ER (barCell c) 0 1 : sProp 𝕄)), hand pz pz_pz (fun c => (dutyTok ER (barCell c) 0 2 : sProp 𝕄))]

omit [FloatOps F] in
theorem deal_roles : (bigSep roleToks fun x => (dutyTok ER x.1 x.2.1 x.2.2 : sProp 𝕄)) ⊢ bigSep Finset.univ fun c => bigSep Finset.univ fun i => pays (F := F) c i := by
  unfold roleToks
  rw [bigSep_image_of_injOn (fun p _ q _ h => by
    obtain ⟨h1, h2, h3⟩ := cl_inj (congrArg Prod.fst h)
    exact Prod.ext h1 (Prod.ext h3 h2)), bigSep_univ_prod]
  have e (c : Dev nD) : (bigSep Finset.univ fun p : Fin 4 × Role => (dutyTok ER (cl c p.2 p.1) 0 0 : sProp 𝕄))
      = bigSep Finset.univ fun i => bigSep Finset.univ fun ρ => dutyTok ER (cl c ρ i) 0 0 := bigSep_univ_prod _
  rw [bigSep_congr fun c _ => e c, bigSep_univ_comm, bigSep_univ_comm (fun c i => pays (F := F) c i)]
  refine bigSep_mono fun i _ => ?_
  rw [bigSep_congr fun c _ => nine_roles (fun ρ => (dutyTok ER (cl c ρ i) 0 0 : sProp 𝕄))]
  unfold pays
  simp only [bigSep_sep']
  rw [hand px px_px (fun c => (dutyTok ER (cl c .xr i) 0 0 : sProp 𝕄)), hand py py_py (fun c => (dutyTok ER (cl c .yr i) 0 0 : sProp 𝕄)),
    hand pz pz_pz (fun c => (dutyTok ER (cl c .zr i) 0 0 : sProp 𝕄)), hand (pf i) (pf_pf i) (fun c => (dutyTok ER (cl c .fr i) 0 0 : sProp 𝕄))]
  refine (?_ : (_ : sProp 𝕄) ⊢ _)
  iintro ⟨H1, H2, H3, H4, H5, H6, H7, H8, H9⟩
  isplitl [H1 H3 H5 H7 H9]
  · isplitl [H1]; · iexact H1
    isplitl [H3]; · iexact H3
    isplitl [H5]; · iexact H5
    isplitl [H7]; · iexact H7
    iexact H9
  isplitl [H2]; · iexact H2
  isplitl [H4]; · iexact H4
  isplitl [H6]; · iexact H6
  iexact H8

end Cert.KernelIdeal.Talk

end
-- ==== Proof.Run.lean ====
/-
  The launch: every cell's record made from the handshake's counters and the dormant transfer cells, the tokens and credits
  dealt, and the run of the whole program. At the end the operands are as launched, the result is `final`, and every counter
  is zero.
-/
module

public import proofs.«01_k».proof.Proof.Enter
public import proofs.«01_k».proof.Proof.Credits
public import Idealize.ShloMosaic.Lib.Quiescent

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (g : Dev nD → PrngReg)

/-! ## The launch element -/

def u₀ : UU :=
  (initOf (Pipeline.PerCore.cells (Pipeline.pinD (pcfgs (F := F)) adm) cells_inj) (Pipeline.PerCore.launchToks (Pipeline.pinD (pcfgs (F := F)) adm) cells_inj),
    launchOf barCells roleCells toks)

/-- The protocol's element, all of it kept on device 0 until it is dealt. -/
def G (c : Dev nD) : sProp 𝕄 := if c = 0 then BI.own (ER (launchOf barCells roleCells toks)) else iprop(emp)

theorem G_all : bigSep Finset.univ (G (F := F)) = BI.own (ER (launchOf barCells roleCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem unscoped_bar : ∀ sm : SemLoc sig, sm.isScoped .tc = false → sm = .reg barrier0 := by decide

omit [FloatOps F] in
theorem unscoped_sems (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-! ## Dealing -/

/-- What a device is dealt that no other device shares. -/
def dealt (c : Dev nD) : sProp 𝕄 :=
  iprop(atPos ER (barCell c) 0 ∅ 0 ∗ greets (F := F) c ∗ (bigSep Finset.univ fun p : Role × Fin 4 => openTok ER (cl c p.1 p.2))
    ∗ bigSep Finset.univ fun i => pays (F := F) c i)

/-- What it brings itself. -/
def brings (c : Dev nD) : sProp 𝕄 :=
  iprop(StableHlo.held (c : Thread nD τ) (Pipeline.ucRefs τ sig) (V0 m c) ∗ (cred (tallyAt (barCell c) () 3) ∗ bigSep Finset.univ fun i => owing4 (F := F) c i)
    ∗ owes (c : Thread nD τ) (O₀ c) ∅)

/-- Where it starts. -/
def T₀ (c : Dev nD) : sProp 𝕄 := iprop(StableHlo.held (c : Thread nD τ) (Pipeline.ucRefs τ sig) (V0 m c) ∗ EE m c)

def shared (κ : GSem nD τ sig → ℕ) : sProp 𝕄 := iprop(recs m κ ∗ bigSep barCells fun x => reached ER x 0)

instance shared_persistent (κ : GSem nD τ sig → ℕ) : BI.Persistent (shared m κ) := by unfold shared; infer_instance

omit [FloatOps F] in
theorem reached_bar (c : Dev nD) : (bigSep barCells fun x => (reached ER x 0 : sProp 𝕄)) ⊢ reached ER (barCell c) 0 :=
  bigSep_elim (Finset.mem_image_of_mem _ (Finset.mem_univ c))

omit [FloatOps F] in
theorem raw_of (c : Dev nD) (i : Fin 4) : iprop(owing4 (F := F) c i ∗ pays (F := F) c i) ⊢ raw (F := F) c i := by
  unfold owing4 pays raw
  iintro ⟨HC, HO, HP⟩
  isplitl [HO]; · iexact HO
  isplitl [HC]; · iexact HC
  iexact HP

theorem start_of (κ : GSem nD τ sig → ℕ) (c : Dev nD) : iprop(shared m κ ∗ (dealt (F := F) c ∗ brings m c)) ⊢ T₀ m c := by
  have hraw : iprop((bigSep Finset.univ fun i => owing4 (F := F) c i) ∗ bigSep Finset.univ fun i => pays (F := F) c i)
      ⊢ (bigSep Finset.univ fun i => raw (F := F) c i : sProp 𝕄) := (pair_up _ _).trans (bigSep_mono fun i _ => raw_of (F := F) c i)
  unfold shared dealt brings T₀ EE barKit greets
  iintro ⟨⟨#HR, #HB⟩, ⟨Ha, ⟨T0, T1, T2⟩, Ho, Hp⟩, Hh, ⟨Hc, Hw⟩, HO⟩
  isplitl [Hh]; · iexact Hh
  isplitr; · iexists κ; iexact HR
  isplitl [Ha T0 T1 T2 Hc]
  · isplitl [Ha Hc]
    · isplitl [Ha]; · iexact Ha
      iexact Hc
    isplitl [T0]
    · isplitl [T0]; · iexact T0
      iapply (reached_bar (F := F) (px c)); iexact HB
    isplitl [T1]
    · isplitl [T1]; · iexact T1
      iapply (reached_bar (F := F) (py c)); iexact HB
    isplitl [T2]; · iexact T2
    iapply (reached_bar (F := F) (pz c)); iexact HB
  isplitl [Ho]; · iexact Ho
  isplitl [Hw Hp]
  · iapply hraw
    isplitl [Hw]; · iexact Hw
    iexact Hp
  iexists ∅
  iexact HO

omit [FloatOps F] in
theorem apart {I : Type} [Fintype I] (Φ Ψ : I → sProp 𝕄) :
    (bigSep Finset.univ fun i => iprop(Φ i ∗ Ψ i)) ⊢ iprop(bigSep Finset.univ Φ ∗ bigSep Finset.univ Ψ) :=
  BI.BIBase.Entails.of_eq (bigSep_sep' Finset.univ Φ Ψ)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (g c) ∗ G (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (g c) ∗ G (F := F) c)
      ⊢ (iprop(brings m c ∗ (semVal (barCell c) 0 ∗ G (F := F) c)) : sProp 𝕄) := by
    rw [show unscopedBufs c (fun b => m ((c : Thread nD τ).loc b)) = StableHlo.held (c : Thread nD τ) (Pipeline.ucRefs τ sig) (V0 m c) from Pipeline.unscopedBufs_held c (V0 m c),
      unscoped_sems]
    unfold brings
    iintro ⟨Hh, Hs, HO, Hc, -, HG⟩
    ihave Hc := (creds (F := F) c) $$ Hc
    isplitl [Hh HO Hc]
    · isplitl [Hh]; · iexact Hh
      isplitl [Hc]; · iexact Hc
      iexact HO
    isplitl [Hs]; · iexact Hs
    iexact HG
  have hbars (Φ : GSem nD τ sig → sProp 𝕄) : bigSep barCells Φ = bigSep Finset.univ fun c => Φ (barCell c) :=
    bigSep_image_of_injOn (fun _ _ _ _ h => bar_inj h) Φ
  have hroles : (bigSep roleCells fun x => (openTok ER x : sProp 𝕄)) ⊢ bigSep Finset.univ fun c => bigSep Finset.univ fun p : Role × Fin 4 => openTok ER (cl c p.1 p.2) :=
    BI.BIBase.Entails.of_eq (by
      unfold roleCells
      rw [bigSep_image_of_injOn (fun p _ q _ h => by
        obtain ⟨h1, h2, h3⟩ := cl_inj h
        exact Prod.ext h1 (Prod.ext h2 h3)), bigSep_univ_prod])
  have htoks : (bigSep toks fun x => (dutyTok ER x.1 x.2.1 x.2.2 : sProp 𝕄))
      ⊢ iprop((bigSep barToks fun x => dutyTok ER x.1 x.2.1 x.2.2) ∗ bigSep roleToks fun x => dutyTok ER x.1 x.2.1 x.2.2) :=
    BI.BIBase.Entails.of_eq (bigSep_union disjoint_toks)
  have hvals : (bigSep Finset.univ fun c => (semVal (barCell c) 0 : sProp 𝕄)) ⊢ bigSep barCells fun x => semVal x 0 :=
    BI.BIBase.Entails.of_eq (hbars fun x => semVal x 0).symm
  have hats : (bigSep barCells fun x => (atPos ER x 0 ∅ 0 : sProp 𝕄)) ⊢ bigSep Finset.univ fun c => atPos ER (barCell c) 0 ∅ 0 :=
    BI.BIBase.Entails.of_eq (hbars fun x => atPos ER x 0 ∅ 0)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (g c) ∗ G (F := F) c))
      ⊢ (bigSep Finset.univ fun c : Dev nD => iprop(brings m c ∗ (semVal (barCell c) 0 ∗ G (F := F) c)) : sProp 𝕄) from bigSep_mono fun c _ => hcore c) $$ H
  ihave H := (apart _ _) $$ H
  icases H with ⟨HB, H⟩
  ihave H := (apart _ _) $$ H
  icases H with ⟨Hv, HG⟩
  ihave Hu := (BI.BIBase.Entails.of_eq (G_all (F := F))) $$ HG
  imod (Rounds.fund_launch ER (Rd m) disjoint_cells (fun x _ h => h) toks) $$ [Hv Hu] with ⟨%κ, -, #Hinv, #Hr, Hat, Hopen, Htok⟩
  · isplitl [Hv]
    · iapply hvals; iexact Hv
    iexact Hu
  ihave Htok := htoks $$ Htok
  icases Htok with ⟨Hb, Hp⟩
  ihave Hb := (deal_bar (F := F)) $$ Hb
  ihave Hp := (deal_roles (F := F)) $$ Hp
  ihave Hopen := hroles $$ Hopen
  ihave Hat := hats $$ Hat
  imodintro
  iapply (bigSep_with_persistent (R := shared m κ) (Φ := fun c => iprop(dealt (F := F) c ∗ brings m c)) fun c _ => start_of m κ c)
  isplitr
  · unfold shared recs
    isplitr; · iexact Hinv
    iexact Hr
  iapply (pair_up (fun c => dealt (F := F) c) (fun c => brings m c))
  isplitr [HB]
  · unfold dealt
    iapply (pair_up _ _); isplitl [Hat]; · iexact Hat
    iapply (pair_up _ _); isplitl [Hb]; · iexact Hb
    iapply (pair_up _ _); isplitl [Hopen]; · iexact Hopen
    iexact Hp
  iexact HB

/-! ## The run -/

/-- The program on device `c`: the host operations, then the region. -/
abbrev steps (c : Dev nD) : List (Pipeline.PerCore.Seg (pcfgs (F := F)) adm (dats m) () defs₀ 𝒱₀ L lv) :=
  [.host (seg0 m 𝒱₀ L lv (fun _ => EE m) c), .region (reg m)]

set_option backward.isDefEq.respectTransparency.types false in
/-- Every run of the program ends, with the operands as launched, the result `final`, and every counter at zero. -/
theorem run_main : θ_run defs (onTc (τ := τ) (main (F := F))) ⟨m, fun _ => 0, g⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v12) = final m c) ∧ r.2.sem = fun _ => 0) :=
  Pipeline.PerCore.θ_run_regions_kit_sems (pcfgs (F := F)) adm (dats m) () cells_inj EP defs₀ 𝒱₀ L lv m g main (steps m)
    (fun c Q => by
      rewrite [main_chain c, Pipeline.PerCore.Seg.run_eq_chain,
        show (steps m c).map Pipeline.PerCore.Seg.prog = [StableHlo.seq (hostOps0 c), Prog.lift (.customCall (Pipeline.entry 0) ())] from rfl]
      exact .rfl)
    (fun c => by simp only [steps, Pipeline.PerCore.Seg.pipes_host, Pipeline.PerCore.Seg.pipes_region, Pipeline.PerCore.Seg.pipes_nil]; decide)
    (O₀ := O₀) (hL := L_of_ne) (G := G) (u₀ := u₀ (F := F))
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := PP m)
    (hch := fun c => ⟨.rfl, .rfl, .rfl⟩)
    (hinit := init m g)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v12) = final m c) ∧ s.sem (barCell c) = 0)
    (hfin := fun c s' => by
      unfold PP
      iintro ⟨⟨H0, H1, H2, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => (h c).1,
      sem_eq_zero hs fun c sm hsm => by
        obtain rfl := unscoped_bar sm hsm
        exact (h c).2⟩)

end Cert.KernelIdeal.Talk

end
-- ==== Proof.Frames.lean ====
/-
  The three programs run to the end, their operands unchanged and every counter at zero: for the kernel this is its run with the
  result's value dropped; the reference has no counters.
-/
module

public import proofs.«01_k».proof.Defs
public import proofs.«01_k».proof.Proof.Run
public import proofs.«01_k».proof.Proof.Bits.Run
public import proofs.«01_k».proof.Proof.Gen.ReferenceIdeal.Run

@[expose] public section

noncomputable section

namespace Cert.Frames

open Idealize.ShloMosaic Idealize.SL.Sem

theorem kernel : Cert.quiescent_Kernel (hKernel := Cert.Kernel.Gen.facts) := fun m g _ =>
  (θ_run Cert.Kernel.defs _ _).mono (fun _ h => ⟨fun c => ⟨(h.1 c).1, (h.1 c).2.1⟩, h.2⟩) (Cert.Kernel.Talk.run_main m g)

theorem kernelIdeal : Cert.quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩) (Cert.KernelIdeal.Talk.run_main m g)

theorem referenceIdeal : Cert.quiescent_ReferenceIdeal (hReferenceIdeal := Cert.ReferenceIdeal.Gen.facts) := fun m g _ =>
  (θ_run Cert.ReferenceIdeal.defs _ _).mono (fun r h => ⟨fun c => ⟨(h c).2.1, (h c).2.2⟩, sem_eq_zero_of_no_sems rfl r.2⟩) (Cert.ReferenceIdeal.Value.run m g)

end Cert.Frames

end
-- ==== Proof.Block.lean ====
/-
  One grid point's summand at an index, over the extended reals: the eight products the point adds up are, together, one sum
  over the block's eight heads and the 128 lanes of each.
-/
module

public import proofs.«01_k».proof.Proof.Contents
public import Idealize.ShloMosaic.Lib.Pointwise

@[expose] public section

noncomputable section

namespace Cert.KernelIdeal.Talk

open Cert.KernelIdeal Cert.KernelIdeal.Gen
open Idealize.ShloMosaic Idealize.ShloMosaic.TcCoe

/-- Row `1024 h + r` of a block of heads. -/
def rowOf (h : Fin 2) (r : Fin 1024) : Fin 2048 := ⟨1024 * h.val + r.val, by have := h.isLt; have := r.isLt; omega⟩
/-- Row `128 n + l` of a block of the weights: head `n`'s lane `l`. -/
def laneOf (n : Fin 8) (l : Fin 128) : Fin 1024 := ⟨128 * n.val + l.val, by have := n.isLt; have := l.isLt; omega⟩

/-- A head's rows against the weights' rows for that head. -/
def headSum (A : Vec Ideal S1x1024x1x128 .f32) (B : Vec Ideal S128x512 .f32) (r : Fin 1024) (j : Fin 512) : EReal :=
  ∑ l : Fin 128, A (ix4 0 r 0 l) * B (ix2 l j)

/-- The point's whole summand: over its eight heads and their lanes. -/
def blockSum (h : Fin 2) (X : S1x2048x8x128.Idx → Elt Ideal .f32) (W : S1024x512.Idx → Elt Ideal .f32) (r : Fin 1024) (j : Fin 512) : EReal :=
  ∑ n : Fin 8, ∑ l : Fin 128, X (ix4 0 (rowOf h r) n l) * W (ix2 (laneOf n l) j)

theorem headSum_ld (h : Fin 2) (n : Fin 8) (X : S1x2048x8x128.Idx → Elt Ideal .f32) (W : S1024x512.Idx → Elt Ideal .f32) (r : Fin 1024) (j : Fin 512) :
    headSum (ldO h n X) (ldW n W) r j = ∑ l : Fin 128, X (ix4 0 (rowOf h r) n l) * W (ix2 (laneOf n l) j) := by
  refine Finset.sum_congr rfl fun l _ => congrArg₂ (fun a b : EReal => a * b) (congrArg X ?_) (congrArg W ?_)
  · funext a
    fin_cases a <;> apply Fin.ext
    · rfl
    · show 1024 * h.val + 1 * r.val = 1024 * h.val + r.val; omega
    · show n.val + 1 * 0 = n.val; omega
    · show 0 + 1 * l.val = l.val; omega
  · funext a
    fin_cases a <;> apply Fin.ext
    · show 128 * n.val + 1 * l.val = 128 * n.val + l.val; omega
    · show 0 + 1 * j.val = j.val; omega

/-- One product of the body, at an index. -/
theorem prod_apply (A : Vec Ideal S1x1024x1x128 .f32) (B : Vec Ideal S128x512 .f32) (r : Fin 1024) (j : Fin 512) :
    (matmul (F := Ideal) (φ₁ := .f32) (φ₂ := .f32) dot_S1024x128_S128x512_S1024x512_1_0_0_1_n_n none
      (shapeCast S1024x128 A shapeCasts_S1x1024x1x128_S1024x128 : FVec Ideal S1024x128 .f32)
      (shapeCast S128x512 B shapeCasts_S128x512_S128x512 : FVec Ideal S128x512 .f32) (constant S1024x512 .f32 0x00000000#32) (ix2 r j) : EReal) = headSum A B r j := by
  unfold headSum
  pointwise

/-- The sent chunk's summand at an index, -/
theorem sSum_apply (h : Fin 2) (X : S1x2048x8x128.Idx → Elt Ideal .f32) (W : S1024x512.Idx → Elt Ideal .f32) (r : Fin 1024) (j : Fin 512) :
    sSum (F := Ideal) h X W (ix2 r j) = blockSum h X W r j := by
  unfold sSum k0_pay8 k0_pay7 k0_pay6
  simp only [addf_apply, prod_apply, headSum_ld, Ideal.addf_def]
  unfold blockSum
  rw [Fin.sum_univ_eight]

/-- and the kept chunk's. -/
theorem kSum_apply (h : Fin 2) (X : S1x2048x8x128.Idx → Elt Ideal .f32) (W : S1024x512.Idx → Elt Ideal .f32) (r : Fin 1024) (j : Fin 512) :
    kSum (F := Ideal) h X W (ix2 r j) = blockSum h X W r j := by
  unfold kSum k0_pay1 kSum6 k0_pay10 k0_pay9
  simp only [addf_apply, prod_apply, headSum_ld, Ideal.addf_def]
  unfold blockSum
  rw [Fin.sum_univ_eight]

end Cert.KernelIdeal.Talk

end
-- ==== Proof.Chunk.lean ====
/-
  A chunk at an index, over the extended reals: what the windows stage, read off the device's two operands; the four points of
  a chunk as one sum; and the chunk of the result as the sum of the device's own and its partner's.
-/
module

public import proofs.«01_k».proof.Proof.Block
public import proofs.«01_k».proof.Proof.Pipe
public import proofs.«01_k».proof.Proof.Whole

@[expose] public section

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ)

/-- Head `n` of the `k`-th block of heads. -/
def headOf (k : Fin 4) (n : Fin 8) : Fin 32 := ⟨8 * k.val + n.val, by have := k.isLt; have := n.isLt; omega⟩
/-- Row `a` of the `k`-th block row of the weights. -/
def wrowOf (k : Fin 4) (a : Fin 1024) : Fin 4096 := ⟨1024 * k.val + a.val, by have := k.isLt; have := a.isLt; omega⟩
/-- Column `j` of chunk `i` of quarter `q`. -/
def colOf (q i : Fin 4) (j : Fin 512) : Fin 8192 := ⟨2048 * q.val + 512 * i.val + j.val, by have := q.isLt; have := i.isLt; have := j.isLt; omega⟩

/-- Device `c`'s heads, and its rows of the weights. -/
def oA (c : Dev nD) : S1x2048x32x128.Idx → EReal := m ((c : Thread nD τ).loc main_arg0)
def wA (c : Dev nD) : S4096x8192.Idx → EReal := m ((c : Thread nD τ).loc main_arg1)

theorem emb_0 (c : Dev nD) (t : Fin grid0.N) (x : S1x2048x8x128.Idx) (a : Fin 4) :
    (((((cfg0 (F := Ideal) (adm c 0)).win 0).blk t).view.emb x : S1x2048x32x128.Idx) a).val
      = cc0_transform_0 (grid0.coords t) a * S1x2048x8x128.size a + 1 * (x a).val := rfl
theorem emb_1 (c : Dev nD) (t : Fin grid0.N) (x : S1024x512.Idx) (a : Fin 2) :
    (((((cfg0 (F := Ideal) (adm c 0)).win 1).blk t).view.emb x : S4096x8192.Idx) a).val
      = cc0_transform_1 inb_S1_S1_0 numel1_S1 (tab (F := Ideal) c) (grid0.coords t) a * S1024x512.size a + 1 * (x a).val := rfl

theorem gk_cpt (i k : Fin 4) : gk (grid0.coords (cpt i k.val)) = k.val := by
  rw [gk_val]; show (4 * i.val + k.val % 4) % 4 = k.val; omega
theorem gb_cpt (i k : Fin 4) : gb (grid0.coords (cpt i k.val)) = i.val := by
  rw [gb_val]; show (4 * i.val + k.val % 4) / 4 = i.val; omega

theorem ob_apply (c : Dev nD) (i k : Fin 4) (s : Fin 2048) (n : Fin 8) (l : Fin 128) :
    ob (F := Ideal) m c (cpt i k.val) (ix4 0 s n l) = oA m c (ix4 0 s (headOf k n) l) := by
  unfold ob
  refine congrArg (m ((c : Thread nD τ).loc main_arg0)) ?_
  funext a
  refine Fin.ext ((emb_0 c _ _ a).trans ?_)
  rw [transform_0, gk_cpt]
  fin_cases a
  · rfl
  · show 0 * 2048 + 1 * s.val = s.val; omega
  · show k.val * 8 + 1 * n.val = 8 * k.val + n.val; omega
  · show 0 * 128 + 1 * l.val = l.val; omega

theorem wb_apply (c : Dev nD) (i k : Fin 4) (a : Fin 1024) (j : Fin 512) :
    wb (F := Ideal) m c (cpt i k.val) (ix2 a j) = wA m c (ix2 (wrowOf k a) (colOf (qd c) i j)) := by
  unfold wb
  refine congrArg (m ((c : Thread nD τ).loc main_arg1)) ?_
  funext b
  refine Fin.ext ((emb_1 c _ _ b).trans ?_)
  rw [transform_tab, gk_cpt, gb_cpt]
  fin_cases b
  · show k.val * 1024 + 1 * a.val = 1024 * k.val + a.val; omega
  · show (4 * (c.val % 4) + min i.val 3) * 512 + 1 * j.val = 2048 * (c.val % 4) + 512 * i.val + j.val
    have := i.isLt
    omega

theorem unsq_apply (B : Blk Ideal) (r : Fin 1024) (j : Fin 512) : unsq B (ix3 0 r j) = B (ix2 r j) := by
  unfold unsq
  pointwise

/-- A device's share of the result's row `r` of its half `h` and column `j` of chunk `i`: over the four blocks of heads, their
    heads and their lanes. -/
def chunkSum (c : Dev nD) (h : Fin 2) (i : Fin 4) (r : Fin 1024) (j : Fin 512) : EReal :=
  ∑ k : Fin 4, ∑ n : Fin 8, ∑ l : Fin 128,
    oA m c (ix4 0 (rowOf h r) (headOf k n) l) * wA m c (ix2 (wrowOf k (laneOf n l)) (colOf (qd c) i j))

theorem blockSum_at (c : Dev nD) (h : Fin 2) (i k : Fin 4) (r : Fin 1024) (j : Fin 512) :
    blockSum h (ob (F := Ideal) m c (cpt i k.val)) (wb (F := Ideal) m c (cpt i k.val)) r j
      = ∑ n : Fin 8, ∑ l : Fin 128,
        oA m c (ix4 0 (rowOf h r) (headOf k n) l) * wA m c (ix2 (wrowOf k (laneOf n l)) (colOf (qd c) i j)) := by
  unfold blockSum
  simp only [ob_apply, wb_apply]

theorem pay4_apply (A B : Blk Ideal) (r : Fin 1024) (j : Fin 512) :
    (sqz (k0_pay4 A (unsq B)) (ix2 r j) : EReal) = B (ix2 r j) + A (ix2 r j) := by
  unfold sqz k0_pay4 unsq
  pointwise
theorem pay11_apply (A B : Blk Ideal) (r : Fin 1024) (j : Fin 512) :
    (sqz (k0_pay11 (unsq A) (unsq B)) (ix2 r j) : EReal) = A (ix2 r j) + B (ix2 r j) := by
  unfold sqz k0_pay11 unsq
  pointwise
/-- The kept chunk's later steps add as the sent chunk's do. -/
theorem pay5_eq (A : Blk Ideal) (h : Fin 2) (X : S1x2048x8x128.Idx → Elt Ideal .f32) (W : S1024x512.Idx → Elt Ideal .f32) (B : S1x1024x512.Idx → Elt Ideal .f32) :
    k0_pay5 (kSum6 h X W) (ldO h 6 X) (ldW 6 W) (ldO h 7 X) (ldW 7 W) B = k0_pay4 (kSum h X W) B := rfl

theorem sAcc_apply (c : Dev nD) (i : Fin 4) (r : Fin 1024) (j : Fin 512) :
    (sAcc (F := Ideal) m c i 3 (ix2 r j) : EReal) = chunkSum m c (sh c) i r j := by
  simp only [sAcc, pay4_apply, sSum_apply]
  unfold chunkSum
  rw [Fin.sum_univ_four, ← blockSum_at, ← blockSum_at, ← blockSum_at, ← blockSum_at]
  rfl

theorem kAcc_apply (c : Dev nD) (i : Fin 4) (r : Fin 1024) (j : Fin 512) :
    (kAcc (F := Ideal) m c i 3 (ix2 r j) : EReal) = chunkSum m c (kh c) i r j := by
  simp only [kAcc, pay5_eq, pay4_apply, kSum_apply]
  unfold chunkSum
  rw [Fin.sum_univ_four, ← blockSum_at, ← blockSum_at, ← blockSum_at, ← blockSum_at]
  rfl

/-- The chunk of the result device `c` computes: its own share and its partner's. -/
theorem keepV_apply (c : Dev nD) (i : Fin 4) (r : Fin 1024) (j : Fin 512) :
    (keepV (F := Ideal) m c i (ix2 r j) : EReal) = chunkSum m c (kh c) i r j + chunkSum m (px c) (sh (px c)) i r j := by
  unfold keepV sendV
  rw [pay11_apply, kAcc_apply, sAcc_apply]

/-- The result on device `c` at row `r` and column `j` of chunk `i` of quarter `q`. -/
theorem final_apply (c : Dev nD) (q i : Fin 4) (r : Fin 1024) (j : Fin 512) :
    (final (F := Ideal) m c (ix3 0 r (colOf q i j)) : EReal)
      = chunkSum m (dv c q) (kh (dv c q)) i r j + chunkSum m (px (dv c q)) (sh (px (dv c q))) i r j := by
  rw [← keepV_apply, ← unsq_apply (keepV (F := Ideal) m (dv c q) i)]
  unfold final
  have e : (ix3 0 r (colOf q i j) : S1x1024x8192.Idx) = (outR (q, i)).emb (ix3 0 r j) := by
    funext a
    fin_cases a <;> apply Fin.ext
    · rfl
    · show r.val = 0 + 1 * r.val; omega
    · show 2048 * q.val + 512 * i.val + j.val = 2048 * q.val + 512 * i.val + 1 * j.val; omega
  rw [e]
  exact Rect.glue_emb outR outR_cover outR_disj _ (q, i) _

end Cert.KernelIdeal.Talk

end
-- ==== Proof.Equation.lean ====
/-
  The equation. The reference's entry is one sum over the 8192 pairs of a head and a lane. Cut by the mesh's `x` axis it is two
  sums of 4096, and each of those is, block of heads by block of heads, what the devices of that `x` add up: so the device's own
  share and its partner's are together the reference's entry. Only the order of the additions changes.
-/
module

public import proofs.«01_k».proof.Proof.Chunk
public import proofs.«01_k».proof.Proof.Gen.ReferenceIdeal.Run
public import Idealize.ShloMosaic.Lib.Pipeline.ValueKit.Acc
public import Idealize.ShloMosaic.Lib.Layout

@[expose] public section

noncomputable section

namespace Cert.KernelIdeal.Talk

open Cert.KernelIdeal Cert.KernelIdeal.Gen
open Idealize.ShloMosaic Idealize.ShloMosaic.TcCoe

/-! ## The reference at an index -/

/-- The indices of the whole heads, of the whole weights and of the result. -/
abbrev HeadsIdx := Cert.ReferenceIdeal.S1x2048x64x128.Idx
abbrev WeightsIdx := Cert.ReferenceIdeal.S8192x8192.Idx
abbrev ResultIdx := Cert.ReferenceIdeal.S1x2048x8192.Idx

/-- The reference's result from the whole heads and the whole weights. -/
def refOut (O : HeadsIdx → Elt Ideal .f32) (W : WeightsIdx → Elt Ideal .f32) : ResultIdx → Elt Ideal .f32 :=
  Host.dotGeneral (F := Ideal) (φ₁ := .f32) (φ₂ := .f32) Cert.ReferenceIdeal.dot_S1x2048x8192_S8192x8192_S1x2048x8192_2_0_01_1_n_n none
    (shapeCast Cert.ReferenceIdeal.S1x2048x8192 O Cert.ReferenceIdeal.Gen.shapeCasts_S1x2048x64x128_S1x2048x8192) W

/-- The product the reference adds at row `s`, column `n` for the pair of head `κ / 128` and lane `κ % 128`. -/
def refTerm (O : HeadsIdx → Elt Ideal .f32) (W : WeightsIdx → Elt Ideal .f32) (s : Fin 2048) (n : Fin 8192) (κ : Fin 8192) : EReal :=
  (O (ix4 0 s ⟨κ.val / 128, by have := κ.isLt; omega⟩ ⟨κ.val % 128, by omega⟩) : EReal) * (W (ix2 κ n) : EReal)

theorem refOut_apply (O : HeadsIdx → Elt Ideal .f32) (W : WeightsIdx → Elt Ideal .f32) (s : Fin 2048) (n : Fin 8192) :
    (refOut O W (ix3 0 s n) : EReal) = ∑ κ : Fin 8192, refTerm O W s n κ := by
  unfold refOut refTerm
  pointwise

/-! ## The sum cut as the devices cut it -/

/-- The pair of lane `l` of head `n` of block `k` in half `x`. -/
def pairOf (x : Fin 2) (k : Fin 4) (n : Fin 8) (l : Fin 128) : Fin 8192 :=
  ⟨4096 * x.val + 1024 * k.val + 128 * n.val + l.val, by have := x.isLt; have := k.isLt; have := n.isLt; have := l.isLt; omega⟩

theorem sum_pairs (f : Fin 8192 → EReal) :
    ∑ κ : Fin 8192, f κ = ∑ x : Fin 2, ∑ k : Fin 4, ∑ n : Fin 8, ∑ l : Fin 128, f (pairOf x k n l) := by
  rw [← Fin.sum_mul_add_fin 2 4096 f rfl]
  refine Finset.sum_congr rfl fun x _ => ?_
  rw [← Fin.sum_mul_add_fin (L := 4096) 4 1024 (fun a : Fin 4096 => f ⟨x.val * 4096 + a.val, by have := x.isLt; have := a.isLt; omega⟩) rfl]
  refine Finset.sum_congr rfl fun k _ => ?_
  rw [← Fin.sum_mul_add_fin (L := 1024) 8 128 (fun b : Fin 1024 => f ⟨x.val * 4096 + (k.val * 1024 + b.val), by have := x.isLt; have := k.isLt; have := b.isLt; omega⟩) rfl]
  refine Finset.sum_congr rfl fun n _ => Finset.sum_congr rfl fun l _ => congrArg f (Fin.ext ?_)
  show x.val * 4096 + (k.val * 1024 + (n.val * 128 + l.val)) = 4096 * x.val + 1024 * k.val + 128 * n.val + l.val
  omega

/-! ## The devices' blocks of the operands -/

/-- The half of the mesh device `c` is in. -/
def xd (c : Dev nD) : Fin 2 := kh c

variable (m : (ℓ : Loc nD τ sig) → Buf (Elt Ideal) ℓ)

/-- What the operands hold on every device, given the whole ones. -/
def Placed (O : HeadsIdx → Elt Ideal .f32) (W : WeightsIdx → Elt Ideal .f32) : Prop :=
  ∀ c : Dev nD,
    m ((c.tc : Thread nD τ).loc main_arg0) = Layout.blockN ⟨4, ![1, 2048, 32, 128]⟩ ⟨4, ![1, 2048, 64, 128]⟩ (Layout.meshBlock [2, 2, 2] ![[], [], [0], []] c) O
    ∧ m ((c.tc : Thread nD τ).loc main_arg1) = Layout.blockN ⟨2, ![4096, 8192]⟩ ⟨2, ![8192, 8192]⟩ (Layout.meshBlock [2, 2, 2] ![[0], []] c) W

variable {m} {O : HeadsIdx → Elt Ideal .f32} {W : WeightsIdx → Elt Ideal .f32}

theorem lin_x : ∀ c : Dev nD, Layout.meshLin [2, 2, 2] c.val [0] = (xd c).val := by decide

theorem oA_eq (h : Placed m O W) (c : Dev nD) (s : Fin 2048) (k : Fin 4) (n : Fin 8) (l : Fin 128) :
    oA m c (ix4 0 s (headOf k n) l)
      = O (ix4 0 s ⟨(pairOf (xd c) k n l).val / 128, by have := (pairOf (xd c) k n l).isLt; omega⟩ ⟨(pairOf (xd c) k n l).val % 128, by omega⟩) := by
  unfold oA
  rw [(h c).1]
  refine congrArg O ?_
  funext a
  have hx := lin_x c
  have hl := l.isLt
  fin_cases a <;> apply Fin.ext
  · rfl
  · show 0 * 2048 + s.val = s.val; omega
  · show Layout.meshLin [2, 2, 2] c.val [0] * 32 + (8 * k.val + n.val) = (4096 * (xd c).val + 1024 * k.val + 128 * n.val + l.val) / 128
    omega
  · show 0 * 128 + l.val = (4096 * (xd c).val + 1024 * k.val + 128 * n.val + l.val) % 128
    omega

theorem wA_eq (h : Placed m O W) (c : Dev nD) (k : Fin 4) (n : Fin 8) (l : Fin 128) (col : Fin 8192) :
    wA m c (ix2 (wrowOf k (laneOf n l)) col) = W (ix2 (pairOf (xd c) k n l) col) := by
  unfold wA
  rw [(h c).2]
  refine congrArg W ?_
  funext a
  have hx := lin_x c
  fin_cases a <;> apply Fin.ext
  · show Layout.meshLin [2, 2, 2] c.val [0] * 4096 + (1024 * k.val + (128 * n.val + l.val)) = 4096 * (xd c).val + 1024 * k.val + 128 * n.val + l.val
    omega
  · show 0 * 8192 + col.val = col.val; omega

/-- A device's share is the reference's sum over its half of the pairs. -/
theorem chunkSum_eq (h : Placed m O W) (c : Dev nD) (u : Fin 2) (i : Fin 4) (r : Fin 1024) (j : Fin 512) :
    chunkSum m c u i r j
      = ∑ k : Fin 4, ∑ n : Fin 8, ∑ l : Fin 128, refTerm O W (rowOf u r) (colOf (qd c) i j) (pairOf (xd c) k n l) := by
  unfold chunkSum refTerm
  simp only [oA_eq h, wA_eq h]

/-- The two shares together are the reference's entry. -/
theorem shares (h : Placed m O W) (c : Dev nD) (q i : Fin 4) (r : Fin 1024) (j : Fin 512) :
    chunkSum m (dv c q) (kh (dv c q)) i r j + chunkSum m (px (dv c q)) (sh (px (dv c q))) i r j
      = (refOut O W (ix3 0 (rowOf (xd c) r) (colOf q i j)) : EReal) := by
  have e : ∀ (c : Dev nD) (q : Fin 4), kh (dv c q) = xd c ∧ sh (px (dv c q)) = xd c ∧ qd (dv c q) = q ∧ qd (px (dv c q)) = q
      ∧ ((xd (dv c q) = 0 ∧ xd (px (dv c q)) = 1) ∨ (xd (dv c q) = 1 ∧ xd (px (dv c q)) = 0)) := by decide
  obtain ⟨e1, e2, e3, e4, e5⟩ := e c q
  rw [refOut_apply, sum_pairs, Fin.sum_univ_two, chunkSum_eq h, chunkSum_eq h, e1, e2, e3, e4]
  rcases e5 with ⟨a, b⟩ | ⟨a, b⟩
  · rw [a, b]
  · rw [a, b, add_comm]

/-- The result on device `c` is its block of the reference's. -/
theorem final_eq (h : Placed m O W) (c : Dev nD) :
    final m c = Layout.blockN ⟨3, ![1, 1024, 8192]⟩ ⟨3, ![1, 2048, 8192]⟩ (Layout.meshBlock [2, 2, 2] ![[], [0], []] c) (refOut O W) := by
  funext x
  obtain ⟨r, col, rfl⟩ : ∃ (r : Fin 1024) (col : Fin 8192), x = ix3 0 r col := by
    refine ⟨x 1, x 2, (eq_ix3 x).trans ?_⟩
    have : x 0 = (0 : Fin 1) := Subsingleton.elim (α := Fin 1) _ _
    rw [this]
  obtain ⟨q, i, j, rfl⟩ : ∃ (q i : Fin 4) (j : Fin 512), col = colOf q i j := by
    have := col.isLt
    refine ⟨⟨col.val / 2048, by omega⟩, ⟨col.val % 2048 / 512, by omega⟩, ⟨col.val % 512, by omega⟩, Fin.ext ?_⟩
    show col.val = 2048 * (col.val / 2048) + 512 * (col.val % 2048 / 512) + col.val % 512
    omega
  refine (final_apply m c q i r j).trans ((shares h c q i r j).trans (congrArg (refOut O W) ?_))
  funext a
  have hx := lin_x c
  fin_cases a <;> apply Fin.ext
  · rfl
  · show 1024 * (xd c).val + r.val = Layout.meshLin [2, 2, 2] c.val [0] * 1024 + r.val; omega
  · show (colOf q i j).val = 0 * 8192 + (colOf q i j).val; omega

end Cert.KernelIdeal.Talk

end
-- ==== Proof.Value.lean ====
/-
  The value claim: on every device the kernel ends with its block of what the reference computes.
-/
module

public import proofs.«01_k».proof.Defs
public import proofs.«01_k».proof.Proof.Run
public import proofs.«01_k».proof.Proof.Equation

@[expose] public section

noncomputable section

namespace Cert.Value

open Idealize.ShloMosaic Idealize.SL.Sem

theorem algebraic : Cert.algebraic_KernelIdeal_ReferenceIdeal (hKernelIdeal := Cert.KernelIdeal.Gen.facts) (hReferenceIdeal := Cert.ReferenceIdeal.Gen.facts) := by
  intro m g m' g' _ hin
  refine ⟨Cert.KernelIdeal.Talk.refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c).2.2).trans (Cert.KernelIdeal.Talk.final_eq hin c), (h.1 c).1, (h.1 c).2.1⟩) (Cert.KernelIdeal.Talk.run_main m g)
  · exact (θ_run Cert.ReferenceIdeal.defs _ _).mono (fun _ h => h 0) (Cert.ReferenceIdeal.Value.run m' g')

end Cert.Value

end
-- ==== Proof.lean ====
/-
  The certificate of the attention output projection on the 2 x 2 x 2 mesh: the three frames, and the kernel's
  result on every device as its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.Frames.kernel, Cert.Frames.kernelIdeal, Cert.Frames.referenceIdeal, trivial, Cert.Value.algebraic⟩

end Cert.Proof

end
